-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x200x64 : Shape := ⟨3, ![16384, 200, 64]⟩
abbrev S2x16384 : Shape := ⟨2, ![2, 16384]⟩
abbrev S_ : Shape := ⟨0, ![]⟩

class Facts : Prop where
  bcast_S_S2x16384 : S_.BroadcastsInDim S2x16384 (![] : Fin 0 → Fin S2x16384.rank)
  reducesTo_S2x16384_S_d0_1 : S2x16384.ReducesTo [0, 1] S_
  h_S_ : 0 < S_.numel

variable [Facts]

def fn {F : FTy → Type} [FloatOps F] (main_arg0 : FVec F S16384x200x64 .f32) (main_arg1 : IVec S2x16384 32) : IVec S_ 1 :=
  let main_c : IVec S_ 32 := constantI S_ 32 0#32
  let main_v0 : IVec S2x16384 32 := broadcastInDim S2x16384 ![] bcast_S_S2x16384 main_c
  let main_v1 : IVec S2x16384 1 := cmpi .sge main_arg1 main_v0
  let main_c_0 : IVec S_ 32 := constantI S_ 32 200#32
  let main_v2 : IVec S2x16384 32 := broadcastInDim S2x16384 ![] bcast_S_S2x16384 main_c_0
  let main_v3 : IVec S2x16384 1 := cmpi .slt main_arg1 main_v2
  let main_v4 : IVec S2x16384 1 := andi main_v1 main_v3
  let main_c_1 : IVec S_ 1 := constantI S_ 1 1#1
  let main_v5 : IVec S_ 1 := (fun x v => Host.reduce IntOp.andi x v reducesTo_S2x16384_S_d0_1 h_S_) main_v4 main_c_1
  main_v5
-- ==== Kernel.lean ====
abbrev S16384x200x64 : Shape := ⟨3, ![16384, 200, 64]⟩
abbrev S2x16384 : Shape := ⟨2, ![2, 16384]⟩
abbrev S200x64x16384 : Shape := ⟨3, ![200, 64, 16384]⟩
abbrev S200x8x8x128x128 : Shape := ⟨5, ![200, 8, 8, 128, 128]⟩
abbrev S200x8x128x8x128 : Shape := ⟨5, ![200, 8, 128, 8, 128]⟩
abbrev S209715200 : Shape := ⟨1, ![209715200]⟩
abbrev S1x16384 : Shape := ⟨2, ![1, 16384]⟩
abbrev S16384 : Shape := ⟨1, ![16384]⟩
abbrev S8x128x8x128 : Shape := ⟨4, ![8, 128, 8, 128]⟩
abbrev S512 : Shape := ⟨1, ![512]⟩
abbrev S8x4x8x128 : Shape := ⟨4, ![8, 4, 8, 128]⟩
abbrev S_ : Shape := ⟨0, ![]⟩
abbrev S16 : Shape := ⟨1, ![16]⟩
abbrev S1x1x1x16 : Shape := ⟨4, ![1, 1, 1, 16]⟩
abbrev S1x1x1x128 : Shape := ⟨4, ![1, 1, 1, 128]⟩
abbrev S128 : Shape := ⟨1, ![128]⟩
abbrev S1x4x8x128 : Shape := ⟨4, ![1, 4, 8, 128]⟩
abbrev S4x8x128 : Shape := ⟨3, ![4, 8, 128]⟩
abbrev S128x128x8x8 : Shape := ⟨4, ![128, 128, 8, 8]⟩
abbrev S16384x64 : Shape := ⟨2, ![16384, 64]⟩

abbrev nBuf : Table → Nat
  | .hbm => 13
  | .local .scVector .vmem => 5
  | _ => 0

abbrev bufTy : (tb : Table) → Fin (nBuf tb) → BufTy
  | .hbm, ⟨0, _⟩ => ⟨S16384x200x64, .f32⟩
  | .hbm, ⟨1, _⟩ => ⟨S2x16384, .i32⟩
  | .hbm, ⟨2, _⟩ => ⟨S200x64x16384, .f32⟩
  | .hbm, ⟨3, _⟩ => ⟨S200x8x8x128x128, .f32⟩
  | .hbm, ⟨4, _⟩ => ⟨S200x8x128x8x128, .f32⟩
  | .hbm, ⟨5, _⟩ => ⟨S209715200, .f32⟩
  | .hbm, ⟨6, _⟩ => ⟨S1x16384, .i32⟩
  | .hbm, ⟨7, _⟩ => ⟨S16384, .i32⟩
  | .hbm, ⟨8, _⟩ => ⟨S1x16384, .i32⟩
  | .hbm, ⟨9, _⟩ => ⟨S16384, .i32⟩
  | .hbm, ⟨10, _⟩ => ⟨S8x128x8x128, .f32⟩
  | .hbm, ⟨11, _⟩ => ⟨S128x128x8x8, .f32⟩
  | .hbm, ⟨12, _⟩ => ⟨S16384x64, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S8x4x8x128, .i32⟩
  | .local .scVector .vmem, ⟨4, _⟩ => ⟨S8x4x8x128, .f32⟩
  | _, _ => ⟨S16384x200x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v3_scv : Ref sig .scVector := ⟨.hbm, 5, rfl⟩
abbrev main_v5_scv : Ref sig .scVector := ⟨.hbm, 7, rfl⟩
abbrev main_v7_scv : Ref sig .scVector := ⟨.hbm, 9, rfl⟩
abbrev main_v8_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 4 → Nat :=
  let c0_i32_15002 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15000 : BitVec 32 := 4#32
  let v22467 : BitVec 32 := Scalar.muli v1 c4_i32_15000
  let c0_i32_15006 : BitVec 32 := 0#32
  let c0_i32_15007 : BitVec 32 := 0#32
  ![0, v22467.toNat, 0, 0]
def k0_off3 (i : grid0.Coords) : Fin 4 → Nat :=
  let c1_i32_15303 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15301 : BitVec 32 := 4#32
  let v22636 : BitVec 32 := Scalar.muli v1 c4_i32_15301
  let c0_i32_15307 : BitVec 32 := 0#32
  let c0_i32_15308 : BitVec 32 := 0#32
  ![1, v22636.toNat, 0, 0]
def k0_off4 (i : grid0.Coords) : Fin 4 → Nat :=
  let c2_i32_15604 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15602 : BitVec 32 := 4#32
  let v22805 : BitVec 32 := Scalar.muli v1 c4_i32_15602
  let c0_i32_15608 : BitVec 32 := 0#32
  let c0_i32_15609 : BitVec 32 := 0#32
  ![2, v22805.toNat, 0, 0]
def k0_off5 (i : grid0.Coords) : Fin 4 → Nat :=
  let c3_i32_15905 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15903 : BitVec 32 := 4#32
  let v22974 : BitVec 32 := Scalar.muli v1 c4_i32_15903
  let c0_i32_15909 : BitVec 32 := 0#32
  let c0_i32_15910 : BitVec 32 := 0#32
  ![3, v22974.toNat, 0, 0]
def k0_off6 (i : grid0.Coords) : Fin 4 → Nat :=
  let c4_i32_16206 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_16204 : BitVec 32 := 4#32
  let v23143 : BitVec 32 := Scalar.muli v1 c4_i32_16204
  let c0_i32_16210 : BitVec 32 := 0#32
  let c0_i32_16211 : BitVec 32 := 0#32
  ![4, v23143.toNat, 0, 0]
def k0_off7 (i : grid0.Coords) : Fin 4 → Nat :=
  let c5_i32_16507 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_16505 : BitVec 32 := 4#32
  let v23312 : BitVec 32 := Scalar.muli v1 c4_i32_16505
  let c0_i32_16511 : BitVec 32 := 0#32
  let c0_i32_16512 : BitVec 32 := 0#32
  ![5, v23312.toNat, 0, 0]
def k0_off8 (i : grid0.Coords) : Fin 4 → Nat :=
  let c6_i32_16808 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_16806 : BitVec 32 := 4#32
  let v23481 : BitVec 32 := Scalar.muli v1 c4_i32_16806
  let c0_i32_16812 : BitVec 32 := 0#32
  let c0_i32_16813 : BitVec 32 := 0#32
  ![6, v23481.toNat, 0, 0]
def k0_off9 (i : grid0.Coords) : Fin 4 → Nat :=
  let c7_i32_17109 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_17107 : BitVec 32 := 4#32
  let v23650 : BitVec 32 := Scalar.muli v1 c4_i32_17107
  let c0_i32_17113 : BitVec 32 := 0#32
  let c0_i32_17114 : BitVec 32 := 0#32
  ![7, v23650.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200x64 : Shape := ⟨3, ![16384, 200, 64]⟩
abbrev S2x16384 : Shape := ⟨2, ![2, 16384]⟩
abbrev S1x16384 : Shape := ⟨2, ![1, 16384]⟩
abbrev S16384 : Shape := ⟨1, ![16384]⟩
abbrev S_ : Shape := ⟨0, ![]⟩
abbrev S16384x1 : Shape := ⟨2, ![16384, 1]⟩
abbrev S16384x2 : Shape := ⟨2, ![16384, 2]⟩
abbrev S16384x64 : Shape := ⟨2, ![16384, 64]⟩

abbrev nBuf : Space → Nat
  | .hbm => 24
  | .vmem => 0
  | .smem => 0
  | _ => 0

abbrev bufTy : (tb : Table) → Fin (tcTables nBuf tb) → BufTy
  | .hbm, ⟨0, _⟩ => ⟨S16384x200x64, .f32⟩
  | .hbm, ⟨1, _⟩ => ⟨S2x16384, .i32⟩
  | .hbm, ⟨2, _⟩ => ⟨S1x16384, .i32⟩
  | .hbm, ⟨3, _⟩ => ⟨S16384, .i32⟩
  | .hbm, ⟨4, _⟩ => ⟨S1x16384, .i32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x1, .i32⟩
  | .hbm, ⟨22, _⟩ => ⟨S16384x2, .i32⟩
  | .hbm, ⟨23, _⟩ => ⟨S16384x64, .f32⟩
  | _, _ => ⟨S16384x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Tile.Streams.lean ====
/- Several indirect gathers outstanding on one semaphore: each entry of each list is one delivery of a batch. -/
module

public import Idealize.ShloMosaic.Lib.SparseCore.Stream
public import Idealize.ShloMosaic.Lib.Batch

@[expose] public section

noncomputable section

namespace Cert.Streams

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- The issue rights from the `j`th on are those of the next `o` and those from the `j + o`th on. -/
theorem pending_split {n : ℕ} (o j : ℕ) (h : j + o ≤ n) (Φ : Fin n → sProp 𝕄) :
    bigSep (Transfers.pending j) Φ
      = iprop((bigSep Finset.univ fun k : Fin o => Φ ⟨j + k.val, by omega⟩) ∗ bigSep (Transfers.pending (j + o)) Φ) := by
  classical
  let em : Fin o ↪ Fin n := ⟨fun k => ⟨j + k.val, by omega⟩, fun a b e => by
    have := Fin.mk.inj_iff.mp e; exact Fin.ext (by omega)⟩
  have hu : Transfers.pending (n := n) j = (Finset.univ.map em) ∪ Transfers.pending (j + o) := by
    ext t
    simp only [Transfers.pending, Finset.mem_filter, Finset.mem_univ, true_and, Finset.mem_union, Finset.mem_map]
    constructor
    · intro ht
      by_cases h' : j + o ≤ t.val
      · exact Or.inr h'
      · exact Or.inl ⟨⟨t.val - j, by omega⟩, Fin.ext (by change j + (t.val - j) = t.val; omega)⟩
    · rintro (⟨k, rfl⟩ | h')
      · change j ≤ j + k.val; omega
      · omega
  have hd : Disjoint (Finset.univ.map em) (Transfers.pending (n := n) (j + o)) := by
    refine Finset.disjoint_left.mpr fun t ht ht' => ?_
    obtain ⟨k, -, rfl⟩ := Finset.mem_map.mp ht
    have h2 := (Finset.mem_filter.mp ht').2
    change j + o ≤ j + k.val at h2
    have := k.isLt; omega
  rw [hu, BI.bigSep_union hd, BI.bigSep_map]; rfl

variable (c : Thread nD τ) {sp : Space} {s₀ s si : Shape} {e : EltTy} {a : Nat}

/-- The row of the source that entry `k` of a gather carries. -/
def entryRow (hg : s₀.Gathers a s) (g : s₀.Idx → Elt F e) (r : Fin (s.size hg.axis') → Fin (s₀.size hg.axis)) (k : Fin (s.size hg.axis')) :
    (s.rowShape hg.axis').Idx → Elt F e := fun i => g (hg.rowIdx (r k) i)

/-- What entry `k` of a gather delivers: its row of the destination written with the row of the source that the list
    names, the entry of the list back, and its piece of the source's share back. -/
def entryD (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) : sProp 𝕄 :=
  iprop(((dst.view.loc c ↦[(dst.view.slice (s.rowRect hg.axis' k)).set]{fullShare}
        ((dst.view.slice (s.rowRect hg.axis' k)).write (Elt F) fd (entryRow hg (src.view.read (Elt F) fs) r k) Finset.univ))
      ∗ (offs.view.loc c ↦[{offs.view.emb (si.rowMajor.symm (k.cast hn.symm))}]{qo} fo))
    ∗ (src.view.loc c ↦[src.view.set]{pieceOf q _ ho k} fs))

instance entryD_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) :
    BI.Storable (upEmb : UEmb _ 𝕄) (entryD c src dst hg offs hn ho q qo fs fd fo r k) := by
  unfold entryD; infer_instance

/-- Every entry's delivery together is the destination written with the gather's payload, and the source's and the
    list's shares whole again. -/
theorem entryD_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    bigSep Finset.univ (entryD c src dst hg offs hn ho q qo fs fd fo r)
      ⊢ (iprop((dst.view.loc c ↦[dst.view.set]{fullShare}
            (dst.view.write (Elt F) fd (gatherPayload hg (src.view.read (Elt F) fs) r) Finset.univ))
          ∗ (src.view.loc c ↦[src.view.set]{q} fs) ∗ (offs.view.loc c ↦[offs.view.set]{qo} fo)) : sProp 𝕄) := by
  unfold entryD
  have hW : ∀ k i, entryRow hg (src.view.read (Elt F) fs) r k i = gatherPayload hg (src.view.read (Elt F) fs) r ((s.rowRect hg.axis' k).emb i) := fun k i => by
    unfold gatherPayload entryRow; rw [Shape.Gathers.idx_rowRect_emb]
  have hen : Function.Bijective fun k : Fin (s.size hg.axis') => si.rowMajor.symm (k.cast hn.symm) :=
    si.rowMajor.symm.bijective.comp (finCongr hn.symm).bijective
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd (entryRow hg (src.view.read (Elt F) fs) r) _ hW) $$ Hrows
  isplitl [Hsrc]; · iapply (Entails.of_eq (pointsTo_piecesOf (src.view.set) fs ho q).symm) $$ Hsrc
  iapply (Entails.of_eq (pointsTo_entries c offs.view _ hen qo fo).symm) $$ Hoffs

variable [Preorder Lvl] {Λ : Labels} {α : Type} {Q : α → sProp (MT nD τ sig Ix (Elt F) Name U Lvl)}
variable {defs : Defs nD τ sig (Elt F) Λ} (EC : UEmb Counters (MT nD τ sig Ix (Elt F) Name U Lvl)) (𝒱 : Variants) (bd : Option 𝒱.V)

/-- The start of a gather whose entries are the batch's next deliveries: holding a share of the source, the
    destination outright, a share of the list whose words are all in range, and the batch with `j` issued, the tile
    goes on with the batch with all the gather's entries issued as well. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n j u : ℕ} {D : Fin n → sProp 𝕄}
    (ι : Ix) (N : ℕ) (hN : ∀ i, (dst.slice (s.rowRect hg.axis' i) (s.stride_rowRect hg.axis' i)).view.dmaCredit = N)
    (ho : 0 < s.size hg.axis') (hin : ∀ x, (offs.view.read (Elt F) fo x).toNat < s₀.size hg.axis)
    (hj : j + s.size hg.axis' ≤ n) (hu : u ≤ j * N)
    (hD : ∀ i : Fin (s.size hg.axis'), entryD c src dst hg offs hn ho q qo fs fd fo (rows (offs.view.read (Elt F) fo) hn hin) i
      = D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  have hb : ∀ i : Fin (s.size hg.axis'), j + i.val < n := fun i => by have := i.isLt; omega
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  let qk : Fin (s.size hg.axis') → PosShare TreeShare := pieceOf q _ ho
  let w : (i : Fin (s.size hg.axis')) → (s.rowShape hg.axis').Idx → Elt F e := fun i x => src.view.read (Elt F) fs (hg.rowIdx (r i) x)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry :=
    (si.rowMajor.symm.bijective.comp (finCongr hn.symm).bijective)
  have hsum : ∑ i, (rd i).dst.view.dmaCredit = s.size hg.axis' * N := by
    rw [Finset.sum_congr rfl fun i _ => hN i, Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (pending_split (s.size hg.axis') j hj (fun t => count EC (γ t) 0))) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i : Fin (s.size hg.axis'), iprop(inv κ (Transfers.batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{qk i} fs)) ∗ count EC (γ ⟨j + i.val, hb i⟩) 0))
        ⊢ iprop(S.heldEntry qo fo i ∗ (S.heldEntry qo fo i -∗ rowRes c (rd i))) := fun i => by
      iintro ⟨#Hinv, ⟨⟨Hr, He⟩, Hsq⟩, Hγj⟩
      isplitl [He]; · iexact He
      iintro He
      unfold rowRes
      iexists qk i, fs, iprop((dst.view.loc c ↦[(dst.view.slice (s.rowRect hg.axis' i)).set]{fullShare} ((dst.view.slice (s.rowRect hg.axis' i)).write (Elt F) fd (w i) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hcu : ∀ N', N' = N → iprop(inv κ (Transfers.batchBody EC (c, SemLoc.dma sem) N D γ γ₀) ∗ count EC (γ ⟨j + i.val, hb i⟩) 0)
            ⊢ creditUpdate (c, SemLoc.dma sem) N' 0 (entryD c src dst hg offs hn ho q qo fs fd fo r i) := by
          rintro _ rfl; exact Transfers.batch_creditUpdate EC ⟨j + i.val, hb i⟩ (Entails.of_eq (hD i))
        iapply (hcu _ (hN i))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Streams
-- ==== Proof.Tile.Rolled.lean ====
/- The tile's program written as loops: the same operations, in the same order, as the printed body. -/
module

public import proofs.«01_k».proof.KernelIdeal

@[expose] public section

noncomputable section

namespace Cert.KernelIdeal.Rolled

open Idealize.ShloMosaic Idealize.SL.Sem

variable {F : FTy → Type} [FloatOps F] [Facts]
open K0.Facts₀

/-- The programs of the tile at grid point `i`. -/
abbrev PG (F : FTy → Type) (i : grid0.Coords) :=
  Prog (TpuEff nD τ sig (Elt F) Λ₀ (.scVector ((i 0).castLE hcore0) ((i 1).castLE hsub0))) PUnit

/-- The `m` rounds of `f` that end before round `e`, in order, then `k`. -/
def rounds {P : Type 1} (f : ℕ → P → P) (e : ℕ) : (m : ℕ) → P → P
  | 0, k => k
  | m + 1, k => f (e - (m + 1)) (rounds f e m k)

/-! ### The places -/

theorem inb16 (p : Fin 32) : ∀ a, (![16 * p.val] : Fin 1 → ℕ) a + S16.size a ≤ S512.size a := by
  intro a; fin_cases a; have := p.isLt; show 16 * p.val + 16 ≤ 512; omega

/-- Sixteen entries of a list of 512. -/
abbrev at16 (p : Fin 32) : Rect S512 := Rect.unit (s := S512) ![16 * p.val] S16.size (inb16 p)

theorem inb4 (fg : Fin 8) (bt : Fin 4) (fr : Fin 8) (ch : Fin 8) :
    ∀ a, (![fg.val, bt.val, fr.val, 16 * ch.val] : Fin 4 → ℕ) a + S1x1x1x16.size a ≤ S8x4x8x128.size a := by
  intro a; have := fg.isLt; have := bt.isLt; have := fr.isLt; have := ch.isLt
  fin_cases a
  · show fg.val + 1 ≤ 8; omega
  · show bt.val + 1 ≤ 4; omega
  · show fr.val + 1 ≤ 8; omega
  · show 16 * ch.val + 16 ≤ 128; omega

/-- Sixteen entries of a row of the index block. -/
abbrev at4 (fg : Fin 8) (bt : Fin 4) (fr : Fin 8) (ch : Fin 8) : Rect S8x4x8x128 :=
  Rect.unit (s := S8x4x8x128) ![fg.val, bt.val, fr.val, 16 * ch.val] S1x1x1x16.size (inb4 fg bt fr ch)

theorem inbRow (fg : Fin 8) (bt : Fin 4) (fr : Fin 8) :
    ∀ a, (![fg.val, bt.val, fr.val, 0] : Fin 4 → ℕ) a + S1x1x1x128.size a ≤ S8x4x8x128.size a := by
  intro a; have := fg.isLt; have := bt.isLt; have := fr.isLt
  fin_cases a
  · show fg.val + 1 ≤ 8; omega
  · show bt.val + 1 ≤ 4; omega
  · show fr.val + 1 ≤ 8; omega
  · show 0 + 128 ≤ 128; omega

theorem inbBlk (fg : Fin 8) : ∀ a, (![fg.val, 0, 0, 0] : Fin 4 → ℕ) a + S1x4x8x128.size a ≤ S8x4x8x128.size a := by
  intro a; have := fg.isLt
  fin_cases a
  · show fg.val + 1 ≤ 8; omega
  · show 0 + 4 ≤ 4; omega
  · show 0 + 8 ≤ 8; omega
  · show 0 + 128 ≤ 128; omega

theorem inbAll : ∀ a, (![0] : Fin 1 → ℕ) a + S209715200.size a ≤ S209715200.size a := by
  intro a; fin_cases a; show 0 + 209715200 ≤ 209715200; omega

/-- The first of the tile's four output rows, as the kernel computes it. -/
abbrev rowWord (i : grid0.Coords) : BitVec 32 :=
  Scalar.muli (Scalar.addi (Scalar.muli (BitVec.ofNat 32 (i 1).val) 2#32) (BitVec.ofNat 32 (i 0).val)) 4#32

theorem rowWord_toNat (i : grid0.Coords) : (rowWord i).toNat = ((i 1).val * 2 + (i 0).val) * 4 := by
  have h0 : (i 0).val < 2 := (i 0).isLt
  have h1 : (i 1).val < 16 := (i 1).isLt
  simp only [rowWord, Scalar.muli, Scalar.addi, IntOp.muli, IntOp.addi, BitVec.toNat_mul, BitVec.toNat_add, BitVec.toNat_ofNat]
  omega

/-- Where the tile's four output rows of feature group `fg` start. -/
abbrev outOff (i : grid0.Coords) (fg : Fin 8) : Fin 4 → ℕ := ![fg.val, (rowWord i).toNat, 0, 0]

theorem inbOut (i : grid0.Coords) (fg : Fin 8) : ∀ a, outOff i fg a + S1x4x8x128.size a ≤ S8x128x8x128.size a := by
  have h0 : (i 0).val < 2 := (i 0).isLt
  have h1 : (i 1).val < 16 := (i 1).isLt
  have hr := rowWord_toNat i
  intro a; have := fg.isLt
  fin_cases a
  · show fg.val + 1 ≤ 8; omega
  · show (rowWord i).toNat + 4 ≤ 128; omega
  · show 0 + 8 ≤ 8; omega
  · show 0 + 128 ≤ 128; omega

theorem h16 : 0 < S16.numel := by decide
theorem h1x16 : 0 < S1x1x1x16.numel := by decide
theorem c16 : S16.ShapeCasts S16 := by decide
theorem c16_4 : S16.ShapeCasts S1x1x1x16 := by decide
theorem sqRow : S1x1x1x128.Squeezes S128 := by decide
theorem sqBlk : S1x4x8x128.Squeezes S4x8x128 := by decide

/-- The flat place's part that the row and the column fix. -/
def baseWord (r c : IVec S16 32) : IVec S16 32 :=
  ori (ori (shli c (broadcast S16 20#32)) (shli (shrsi r (broadcast S16 7#32)) (broadcast S16 10#32)))
    (andi r (broadcast S16 127#32))

/-- A number below 8, below 4, below 32 of any number. -/
abbrev f8 (n : ℕ) : Fin 8 := ⟨n % 8, Nat.mod_lt _ (by decide)⟩
abbrev f4 (n : ℕ) : Fin 4 := ⟨n % 4, Nat.mod_lt _ (by decide)⟩
abbrev f32 (n : ℕ) : Fin 32 := ⟨n % 32, Nat.mod_lt _ (by decide)⟩

variable (i : grid0.Coords)
  (arg2 : Memref sig .scVector .hbm S209715200 .f32) (arg3 arg4 : Memref sig .scVector .hbm S16384 .i32)
  (arg5 : Memref sig .scVector .hbm S8x128x8x128 .f32)
  (arg6 arg7 arg8 : Memref sig .scVector .vmem S512 .i32) (arg9 : Memref sig .scVector .vmem S8x4x8x128 .i32)
  (arg10 : Memref sig .scVector .vmem S8x4x8x128 .f32)

/-- The copy of the tile's 512 entries of an index list into its own memory, started and waited for. -/
def fetch (src : Memref sig .scVector .hbm S16384 .i32) (dst : Memref sig .scVector .vmem S512 .i32) (hdst : dst.IsWhole)
    (sem : DmaSem sig) (k : PG F i) : PG F i :=
  .op (.enqueueDma (src.slice (Rect.unit (s := S16384) (k0_off1 i) S512.size (k0_off1_inb i)) (fun _ => rfl)) (.here dst) (.dma sem)
    (View.wordExact_bits rfl) hdst.wordExact ⟨Or.inl rfl, trivial⟩) fun _ =>
  .op (.waitDma2 sem (src.slice (Rect.unit (s := S16384) (k0_off1 i) S512.size (k0_off1_inb i)) (fun _ => rfl)) dst
    (View.wordExact_bits rfl) hdst.wordExact) fun _ => k

/-- The second half of a round of the first loop: the store. -/
def baseHalf (p : ℕ) (w : IVec S16 32) (k : PG F i) : PG F i :=
  .op (.load arg8 (at16 (f32 p)).toLoadRect (View.loadsAt_vmem h16)) fun _ : Vec F S16 .i32 =>
  .op (.store arg8 (at16 (f32 p)) (shapeCast S16 w c16 : IVec S16 32) Finset.univ
    (View.stores_vmem_bits_univ h16 rfl) (.inl rfl)) fun _ => k

/-- One round of the first loop: sixteen rows and columns in, sixteen flat places out. -/
def baseStep (p : ℕ) (k : PG F i) : PG F i :=
  .op (.load arg6 (at16 (f32 p)).toLoadRect (View.loadsAt_vmem h16)) fun r : Vec F S16 .i32 =>
  .op (.load arg7 (at16 (f32 p)).toLoadRect (View.loadsAt_vmem h16)) fun c : Vec F S16 .i32 =>
  baseHalf i arg8 p (baseWord (shapeCast S16 r c16) (shapeCast S16 c c16)) k

/-- The part of a round of the filling before the raised places are stored: their load. -/
def idxLoad (t : ℕ) (k : IVec S16 32 → PG F i) : PG F i :=
  .op (.load arg8 (at16 (f32 (8 * (t / 64) + t % 8))).toLoadRect (View.loadsAt_vmem h16)) fun v : Vec F S16 .i32 => k v

/-- The places raised by the offset of feature `8 * fg + fr`. -/
def raised (fg : Fin 8) (t : ℕ) (v : IVec S16 32) : IVec S16 32 :=
  addi (shapeCast S16 v c16) (broadcast S16 (BitVec.ofNat 32 (131072 * fg.val + 128 * (t / 8 % 8))))

/-- The store of the raised places. -/
def idxPut (fg : Fin 8) (t : ℕ) (w : IVec S1x1x1x16 32) (k : PG F i) : PG F i :=
  .op (.store arg9 (at4 fg (f4 (t / 64)) (f8 (t / 8)) (f8 t)) w Finset.univ
      (View.stores_vmem_bits_univ h1x16 rfl) (.inl rfl)) fun _ => k

/-- The rest of a round of the filling: a load of what is overwritten, and the store. -/
def idxHalf (fg : Fin 8) (t : ℕ) (w : IVec S16 32) (k : PG F i) : PG F i :=
  .op (.load arg9 (at4 fg (f4 (t / 64)) (f8 (t / 8)) (f8 t)).toLoadRect (View.loadsAt_vmem h1x16)) fun _ : Vec F S1x1x1x16 .i32 =>
  idxPut i arg9 fg t (shapeCast S1x1x1x16 w c16_4 : IVec S1x1x1x16 32) k

/-- One round of the filling: sixteen flat places raised by the feature's offset. -/
def idxStep (fg : Fin 8) (t : ℕ) (k : PG F i) : PG F i :=
  idxLoad i arg8 t fun v => idxHalf i arg9 fg t (raised fg t v) k

/-- A row of 128 of a block. -/
abbrev rowRef {e : EltTy} (m : Memref sig .scVector .vmem S8x4x8x128 e) (fg : Fin 8) (bt : Fin 4) (fr : Fin 8) :
    Memref sig .scVector .vmem S128 e :=
  (m.slice (Rect.unit (s := S8x4x8x128) ![fg.val, bt.val, fr.val, 0] S1x1x1x128.size (inbRow fg bt fr)) (fun _ => rfl)).squeeze
    S128 sqRow

/-- The flat table, as a gather's source. -/
abbrev tableRef : Memref sig .scVector .hbm S209715200 .f32 :=
  arg2.slice (Rect.unit (s := S209715200) ![0] S209715200.size inbAll) (fun _ => rfl)

/-- The start of the gather of row `j` of group `fg`. -/
def gatherStep (sem : DmaSem sig) (fg : Fin 8) (j : ℕ) (k : PG F i) : PG F i :=
  (SparseCore.enqueueIndirectGather rfl (tableRef arg2) (rowRef arg10 fg (f4 (j / 8)) (f8 j)) Shapes1.Facts₀.gathers_S209715200_S128
    (rowRef arg9 fg (f4 (j / 8)) (f8 j)) rfl sem (View.wordExact_bits rfl) rfl (Or.inl rfl)).bind fun _ => k

/-- The wait for one gather of group `fg`. -/
def waitStep (sem : DmaSem sig) (fg : Fin 8) (j : ℕ) (k : PG F i) : PG F i :=
  .op (.waitDma2 sem (tableRef arg2) (rowRef arg10 fg (f4 (j / 8)) (f8 j)) (View.wordExact_bits rfl)
    ((View.wordExact_bits rfl).reshape _ _)) fun _ => k

/-- The gathered block of group `fg`, and its place in the output. -/
abbrev blkRef (fg : Fin 8) : Memref sig .scVector .vmem S4x8x128 .f32 :=
  (arg10.slice (Rect.unit (s := S8x4x8x128) ![fg.val, 0, 0, 0] S1x4x8x128.size (inbBlk fg)) (fun _ => rfl)).squeeze S4x8x128 sqBlk
abbrev outRef (fg : Fin 8) : Memref sig .scVector .hbm S4x8x128 .f32 :=
  (arg5.slice (Rect.unit (s := S8x128x8x128) (outOff i fg) S1x4x8x128.size (inbOut i fg)) (fun _ => rfl)).squeeze S4x8x128 sqBlk

/-- The start of the copy of group `fg`'s block out. -/
def outStep (sem : DmaSem sig) (fg : Fin 8) (k : PG F i) : PG F i :=
  .op (.enqueueDma (blkRef arg10 fg) (.here (outRef i arg5 fg)) (.dma sem) ((View.wordExact_bits rfl).reshape _ _)
    ((View.wordExact_bits rfl).reshape _ _) ⟨Or.inl rfl, trivial⟩) fun _ => k

/-- The wait for one of those copies. -/
def outWait (sem : DmaSem sig) (fg : ℕ) (k : PG F i) : PG F i :=
  .op (.waitDma2 sem (blkRef arg10 (f8 fg)) (outRef i arg5 (f8 fg)) ((View.wordExact_bits rfl).reshape _ _)
    ((View.wordExact_bits rfl).reshape _ _)) fun _ => k

/-- The filling of group `fg`'s index rows, and the starts of its gathers. -/
def fill (gs : Fin 8 → DmaSem sig) (fg : ℕ) (k : PG F i) : PG F i :=
  rounds (idxStep i arg8 arg9 (f8 fg)) 256 256 <| rounds (gatherStep i arg2 arg9 arg10 (gs (f8 fg)) (f8 fg)) 32 32 k

/-- The waits for group `fg`'s gathers, and the start of its copy out. -/
def drain (gs : Fin 8 → DmaSem sig) (osem : DmaSem sig) (fg : ℕ) (k : PG F i) : PG F i :=
  rounds (waitStep i arg2 arg10 (gs (f8 fg)) (f8 fg)) 32 32 <| outStep i arg5 arg10 osem (f8 fg) k

/-- The tile's whole program. -/
def body (harg6 : arg6.IsWhole) (harg7 : arg7.IsWhole) (gs : Fin 8 → DmaSem sig) (osem r0 r1 : DmaSem sig) : PG F i :=
  fetch i arg3 arg6 harg6 r0 <| fetch i arg4 arg7 harg7 r1 <|
  rounds (baseStep i arg6 arg7 arg8) 32 32 <|
  rounds (fill i arg2 arg8 arg9 arg10 gs) 8 8 <|
  rounds (drain i arg2 arg5 arg10 gs osem) 8 8 <|
  rounds (outWait i arg5 arg10 osem) 8 8 (.ret ⟨⟩)

end Cert.KernelIdeal.Rolled
-- ==== Proof.Tile.Base.lean ====
/- The tile's setting: the threads, the buffers, what each of them holds along the run, and the rule of a loop. -/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Tile.Streams
public import proofs.«01_k».proof.Proof.Tile.Rolled

@[expose] public section

noncomputable section

namespace Cert.Proof.Gather

open Cert.KernelIdeal Cert.KernelIdeal.Gen Cert.KernelIdeal.Rolled

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The threads and the buffers -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev tM : Memref sig .scVector .hbm S209715200 .f32 := Memref.whole main_v3_scv
abbrev rM : Memref sig .scVector .hbm S16384 .i32 := Memref.whole main_v5_scv
abbrev cM : Memref sig .scVector .hbm S16384 .i32 := Memref.whole main_v7_scv
abbrev oM : Memref sig .scVector .hbm S8x128x8x128 .f32 := Memref.whole main_v8_scv
abbrev aM : Memref sig .scVector .vmem S512 .i32 := Memref.whole cc0_scratch0
abbrev bM : Memref sig .scVector .vmem S512 .i32 := Memref.whole cc0_scratch1
abbrev pM : Memref sig .scVector .vmem S512 .i32 := Memref.whole cc0_scratch2
abbrev xM : Memref sig .scVector .vmem S8x4x8x128 .i32 := Memref.whole cc0_scratch3
abbrev gM : Memref sig .scVector .vmem S8x4x8x128 .f32 := Memref.whole cc0_scratch4

abbrev tLoc (d : Dev nD) : Loc nD τ sig := (SparseCore.T d).loc main_v3
abbrev rLoc (d : Dev nD) : Loc nD τ sig := (SparseCore.T d).loc main_v5
abbrev cLoc (d : Dev nD) : Loc nD τ sig := (SparseCore.T d).loc main_v7
abbrev oLoc (d : Dev nD) : Loc nD τ sig := (SparseCore.T d).loc main_v8

/-! ## What the buffers hold -/

/-- The row's and the column's part of a flat place. -/
def place (r c : BitVec 32) : BitVec 32 :=
  IntOp.ori (IntOp.ori (IntOp.shli .vector c 20#32) (IntOp.shli .vector (IntOp.shrsi .vector r 7#32) 10#32)) (IntOp.andi r 127#32)

/-- The flat place of feature `8 * g + f` of row `r` and column `c`. -/
def flat (r c : BitVec 32) (g f : ℕ) : BitVec 32 := IntOp.addi (place r c) (BitVec.ofNat 32 (131072 * g + 128 * f))

/-- Entry `n` of an index list, of the table. -/
abbrev listAt (n : ℕ) : S16384.Idx := fun a => ⟨n % 16384, by fin_cases a; exact Nat.mod_lt _ (by decide)⟩
abbrev tableAt (n : ℕ) : S209715200.Idx := fun a => ⟨n % 209715200, by fin_cases a; exact Nat.mod_lt _ (by decide)⟩

/-- The first entry of the tile's part of the lists. -/
def first (L : grid0.Coords) : ℕ := ((L 1).val * 2 + (L 0).val) * 512

variable (T : S209715200.Idx → Elt F .f32) (R C : S16384.Idx → BitVec 32)

/-- The tile's part of a list. -/
def partOf (A : S16384.Idx → BitVec 32) (L : grid0.Coords) : S512.Idx → BitVec 32 := fun x => A (listAt (first L + (x 0).val))
/-- The flat places of feature zero. -/
def places (L : grid0.Coords) : S512.Idx → BitVec 32 := fun x => place (partOf R L x) (partOf C L x)
/-- The index lists of the gathers. -/
def lists (L : grid0.Coords) : S8x4x8x128.Idx → BitVec 32 := fun x =>
  flat (R (listAt (first L + (128 * (x 1).val + (x 3).val)))) (C (listAt (first L + (128 * (x 1).val + (x 3).val)))) (x 0).val (x 2).val
/-- What the gathers bring. -/
def brought (L : grid0.Coords) : S8x4x8x128.Idx → Elt F .f32 := fun x => T (tableAt (lists R C L x).toNat)
/-- The whole result. -/
def result : S8x128x8x128.Idx → Elt F .f32 := fun x =>
  T (tableAt (flat (R (listAt (128 * (x 1).val + (x 3).val))) (C (listAt (128 * (x 1).val + (x 3).val))) (x 0).val (x 2).val).toNat)

/-- Every flat place the lists name is one of the table's. -/
def InRange : Prop := ∀ (n g f : ℕ), g < 8 → f < 8 → (flat (R (listAt n)) (C (listAt n)) g f).toNat < 209715200

/-! ## Loops -/

/-- Done and to be done: round `j` of the first is done for every `k` below `j`. -/
def mixed {n : ℕ} (Todo Done : Fin n → sProp 𝕄) (j : ℕ) (k : Fin n) : sProp 𝕄 := if k.val < j then Done k else Todo k

theorem mixed_zero {n : ℕ} (Todo Done : Fin n → sProp 𝕄) : bigSep Finset.univ Todo = bigSep Finset.univ (mixed Todo Done 0) :=
  bigSep_congr fun k _ => by rw [mixed, if_neg (Nat.not_lt_zero _)]

theorem mixed_all {n : ℕ} (Todo Done : Fin n → sProp 𝕄) : bigSep Finset.univ (mixed Todo Done n) = bigSep Finset.univ Done :=
  bigSep_congr fun k _ => by rw [mixed, if_pos k.isLt]

theorem mixed_todo {n : ℕ} (Todo Done : Fin n → sProp 𝕄) (j : Fin n) :
    bigSep Finset.univ (mixed Todo Done j.val) = iprop(Todo j ∗ bigSep (Finset.univ.erase j) (mixed Todo Done j.val)) := by
  rw [bigSep_erase (Finset.mem_univ j)]
  congr 1
  rw [mixed, if_neg (Nat.lt_irrefl _)]

theorem mixed_done {n : ℕ} (Todo Done : Fin n → sProp 𝕄) (j : Fin n) :
    bigSep Finset.univ (mixed Todo Done (j.val + 1)) = iprop(Done j ∗ bigSep (Finset.univ.erase j) (mixed Todo Done j.val)) := by
  rw [bigSep_erase (Finset.mem_univ j)]
  congr 1
  · rw [mixed, if_pos (Nat.lt_succ_self _)]
  · refine bigSep_congr fun k hk => ?_
    have hne : k.val ≠ j.val := fun h => (Finset.mem_erase.mp hk).1 (Fin.ext h)
    unfold mixed
    by_cases h : k.val < j.val
    · rw [if_pos h, if_pos (by omega)]
    · rw [if_neg h, if_neg (by omega)]

/-- A loop whose round `j` takes what is to be done of `j` to what is done of it, carrying `I j` to `I (j + 1)`. -/
theorem loop_run {P : Type 1} (W : P → sProp 𝕄) {n : ℕ} (f : ℕ → P → P) (I : ℕ → sProp 𝕄) (Todo Done : Fin n → sProp 𝕄)
    (step : ∀ (j : Fin n) (k : P), iprop(I j.val ∗ Todo j) ⊢ iprop((iprop(I (j.val + 1) ∗ Done j) -∗ W k) -∗ W (f j.val k))) (k : P) :
    iprop(I 0 ∗ bigSep Finset.univ Todo) ⊢ iprop((iprop(I n ∗ bigSep Finset.univ Done) -∗ W k) -∗ W (rounds f n n k)) := by
  have main : ∀ m, m ≤ n → iprop(I (n - m) ∗ bigSep Finset.univ (mixed Todo Done (n - m)))
      ⊢ iprop((iprop(I n ∗ bigSep Finset.univ Done) -∗ W k) -∗ W (rounds f n m k)) := by
    intro m
    induction m with
    | zero =>
      intro _
      rw [Nat.sub_zero, mixed_all]
      show _ ⊢ iprop((iprop(I n ∗ bigSep Finset.univ Done) -∗ W k) -∗ W k)
      iintro H Hk
      iapply Hk $$ H
    | succ m ih =>
      intro hm
      have hlt : n - (m + 1) < n := by omega
      have hs := step ⟨n - (m + 1), hlt⟩ (rounds f n m k)
      have hi := ih (by omega)
      have e : n - m = n - (m + 1) + 1 := by omega
      rw [e] at hi
      rw [show bigSep Finset.univ (mixed Todo Done (n - (m + 1))) = _ from mixed_todo Todo Done ⟨n - (m + 1), hlt⟩]
      rw [show bigSep Finset.univ (mixed Todo Done (n - (m + 1) + 1)) = _ from mixed_done Todo Done ⟨n - (m + 1), hlt⟩] at hi
      show _ ⊢ iprop((iprop(I n ∗ bigSep Finset.univ Done) -∗ W k) -∗ W (f (n - (m + 1)) (rounds f n m k)))
      iintro ⟨HI, Ht, Hr⟩ Hk
      iapply hs $$ [HI Ht]
      · isplitl [HI] <;> iassumption
      iintro ⟨HI, Hd⟩
      iapply hi $$ [HI Hd Hr]
      · isplitl [HI]; · iexact HI
        isplitl [Hd] <;> iassumption
      iexact Hk
  have := main n le_rfl
  rwa [Nat.sub_self, ← mixed_zero] at this

end Cert.Proof.Gather
-- ==== Proof.Tile.Sets.lean ====
/- The parts the tile's buffers are used by: sixteen entries, rows of 128, blocks of a feature group. -/
module

public import proofs.«01_k».proof.Proof.Tile.Base

@[expose] public section

noncomputable section

namespace Cert.Proof.Gather

open Cert.KernelIdeal Cert.KernelIdeal.Gen Cert.KernelIdeal.Rolled
open Idealize.ShloMosaic Idealize.SL.Sem

/-- A number is in a range of `n` starting at a multiple of `n` when its quotient is the multiple. -/
theorem div_range {x n p : ℕ} (hn : 0 < n) : (n * p ≤ x ∧ x < n * p + n) ↔ x / n = p := by
  rw [Nat.div_eq_iff hn]
  constructor
  · rintro ⟨h1, h2⟩; constructor
    · rw [Nat.mul_comm]; exact h1
    · rw [Nat.mul_comm]; omega
  · rintro ⟨h1, h2⟩; rw [Nat.mul_comm] at h1 h2; omega

/-- Sixteen entries of a list of 512. -/
def chSet (p : Fin 32) : Finset S512.Idx := Finset.univ.filter fun x => (x 0).val / 16 = p.val
/-- A feature group's block. -/
def blkSet (g : Fin 8) : Finset S8x4x8x128.Idx := Finset.univ.filter fun x => (x 0).val = g.val
/-- Row `j` of a block. -/
def rowSet (g : Fin 8) (j : Fin 32) : Finset S8x4x8x128.Idx :=
  Finset.univ.filter fun x => (x 0).val = g.val ∧ (x 1).val = j.val / 8 ∧ (x 2).val = j.val % 8
/-- Sixteen entries of a row of a block. -/
def putSet (g : Fin 8) (t : Fin 256) : Finset S8x4x8x128.Idx :=
  Finset.univ.filter fun x => (x 0).val = g.val ∧ (x 1).val = t.val / 64 ∧ (x 2).val = t.val / 8 % 8 ∧ (x 3).val / 16 = t.val % 8
/-- The tile's part of a feature group of the result. -/
def outSet (L : grid0.Coords) (g : Fin 8) : Finset S8x128x8x128.Idx :=
  Finset.univ.filter fun x => (x 0).val = g.val ∧ (x 1).val / 4 = (L 1).val * 2 + (L 0).val

theorem mem_chSet {p : Fin 32} {x : S512.Idx} : x ∈ chSet p ↔ (x 0).val / 16 = p.val := by simp [chSet]
theorem mem_blkSet {g : Fin 8} {x : S8x4x8x128.Idx} : x ∈ blkSet g ↔ (x 0).val = g.val := by simp [blkSet]
theorem mem_rowSet {g : Fin 8} {j : Fin 32} {x : S8x4x8x128.Idx} :
    x ∈ rowSet g j ↔ (x 0).val = g.val ∧ (x 1).val = j.val / 8 ∧ (x 2).val = j.val % 8 := by simp [rowSet]
theorem mem_putSet {g : Fin 8} {t : Fin 256} {x : S8x4x8x128.Idx} :
    x ∈ putSet g t ↔ (x 0).val = g.val ∧ (x 1).val = t.val / 64 ∧ (x 2).val = t.val / 8 % 8 ∧ (x 3).val / 16 = t.val % 8 := by simp [putSet]
theorem mem_outSet {L : grid0.Coords} {g : Fin 8} {x : S8x128x8x128.Idx} :
    x ∈ outSet L g ↔ (x 0).val = g.val ∧ (x 1).val / 4 = (L 1).val * 2 + (L 0).val := by simp [outSet]

/-! ### They are the places' sets -/

theorem at16_set (p : Fin 32) : (at16 p).set = chSet p := by
  ext x
  rw [Rect.mem_set_unit, mem_chSet, ← div_range (by decide)]
  constructor
  · intro h; exact h 0
  · intro h a; fin_cases a; exact h

theorem at4_set (g : Fin 8) (t : Fin 256) : (at4 g (f4 (t.val / 64)) (f8 (t.val / 8)) (f8 t.val)).set = putSet g t := by
  have := t.isLt
  ext x
  rw [Rect.mem_set_unit, mem_putSet, ← div_range (n := 16) (by decide)]
  constructor
  · intro h
    have h0 : g.val ≤ (x 0).val ∧ (x 0).val < g.val + 1 := h 0
    have h1 : t.val / 64 % 4 ≤ (x 1).val ∧ (x 1).val < t.val / 64 % 4 + 1 := h 1
    have h2 : t.val / 8 % 8 ≤ (x 2).val ∧ (x 2).val < t.val / 8 % 8 + 1 := h 2
    have h3 : 16 * (t.val % 8) ≤ (x 3).val ∧ (x 3).val < 16 * (t.val % 8) + 16 := h 3
    omega
  · rintro ⟨h0, h1, h2, h3⟩ a
    fin_cases a
    · show g.val ≤ (x 0).val ∧ (x 0).val < g.val + 1; omega
    · show t.val / 64 % 4 ≤ (x 1).val ∧ (x 1).val < t.val / 64 % 4 + 1; omega
    · show t.val / 8 % 8 ≤ (x 2).val ∧ (x 2).val < t.val / 8 % 8 + 1; omega
    · exact h3

theorem row_set (g : Fin 8) (j : Fin 32) :
    (Rect.unit (s := S8x4x8x128) ![g.val, (f4 (j.val / 8)).val, (f8 j.val).val, 0] S1x1x1x128.size (inbRow g (f4 (j.val / 8)) (f8 j.val))).set = rowSet g j := by
  have := j.isLt
  ext x
  have h3' : (x 3).val < 128 := (x 3).isLt
  rw [Rect.mem_set_unit, mem_rowSet]
  constructor
  · intro h
    have h0 : g.val ≤ (x 0).val ∧ (x 0).val < g.val + 1 := h 0
    have h1 : j.val / 8 % 4 ≤ (x 1).val ∧ (x 1).val < j.val / 8 % 4 + 1 := h 1
    have h2 : j.val % 8 ≤ (x 2).val ∧ (x 2).val < j.val % 8 + 1 := h 2
    omega
  · rintro ⟨h0, h1, h2⟩ a
    fin_cases a
    · show g.val ≤ (x 0).val ∧ (x 0).val < g.val + 1; omega
    · show j.val / 8 % 4 ≤ (x 1).val ∧ (x 1).val < j.val / 8 % 4 + 1; omega
    · show j.val % 8 ≤ (x 2).val ∧ (x 2).val < j.val % 8 + 1; omega
    · show 0 ≤ (x 3).val ∧ (x 3).val < 0 + 128; omega

theorem blk_set (g : Fin 8) : (Rect.unit (s := S8x4x8x128) ![g.val, 0, 0, 0] S1x4x8x128.size (inbBlk g)).set = blkSet g := by
  ext x
  have h1' : (x 1).val < 4 := (x 1).isLt
  have h2' : (x 2).val < 8 := (x 2).isLt
  have h3' : (x 3).val < 128 := (x 3).isLt
  rw [Rect.mem_set_unit, mem_blkSet]
  constructor
  · intro h
    have h0 : g.val ≤ (x 0).val ∧ (x 0).val < g.val + 1 := h 0
    omega
  · intro h0 a
    fin_cases a
    · show g.val ≤ (x 0).val ∧ (x 0).val < g.val + 1; omega
    · show 0 ≤ (x 1).val ∧ (x 1).val < 0 + 4; omega
    · show 0 ≤ (x 2).val ∧ (x 2).val < 0 + 8; omega
    · show 0 ≤ (x 3).val ∧ (x 3).val < 0 + 128; omega

theorem out_set (L : grid0.Coords) (g : Fin 8) :
    (Rect.unit (s := S8x128x8x128) (outOff L g) S1x4x8x128.size (inbOut L g)).set = outSet L g := by
  have hr := rowWord_toNat L
  ext x
  have h2' : (x 2).val < 8 := (x 2).isLt
  have h3' : (x 3).val < 128 := (x 3).isLt
  rw [Rect.mem_set_unit, mem_outSet, ← div_range (n := 4) (by decide)]
  constructor
  · intro h
    have h0 : g.val ≤ (x 0).val ∧ (x 0).val < g.val + 1 := h 0
    have h1 : (rowWord L).toNat ≤ (x 1).val ∧ (x 1).val < (rowWord L).toNat + 4 := h 1
    omega
  · rintro ⟨h0, h1⟩ a
    fin_cases a
    · show g.val ≤ (x 0).val ∧ (x 0).val < g.val + 1; omega
    · show (rowWord L).toNat ≤ (x 1).val ∧ (x 1).val < (rowWord L).toNat + 4; omega
    · show 0 ≤ (x 2).val ∧ (x 2).val < 0 + 8; omega
    · show 0 ≤ (x 3).val ∧ (x 3).val < 0 + 128; omega

/-- The set of a slice of a whole buffer, squeezed or not, is the rectangle's. -/
theorem set_row_x (g : Fin 8) (j : Fin 32) : (rowRef xM g (f4 (j.val / 8)) (f8 j.val)).view.set = rowSet g j := by
  rw [← row_set g j]
  show (((xM).view.slice _).reshape S128 _).set = _
  rw [View.set_reshape, View.set_slice]; exact Finset.map_refl
theorem set_row_g (g : Fin 8) (j : Fin 32) : (rowRef gM g (f4 (j.val / 8)) (f8 j.val)).view.set = rowSet g j := by
  rw [← row_set g j]
  show (((gM).view.slice _).reshape S128 _).set = _
  rw [View.set_reshape, View.set_slice]; exact Finset.map_refl
theorem set_blk (g : Fin 8) : (blkRef gM g).view.set = blkSet g := by
  rw [← blk_set g]
  show (((gM).view.slice _).reshape S4x8x128 _).set = _
  rw [View.set_reshape, View.set_slice]; exact Finset.map_refl
theorem set_out (L : grid0.Coords) (g : Fin 8) : (outRef L oM g).view.set = outSet L g := by
  rw [← out_set L g]
  show (((oM).view.slice _).reshape S4x8x128 _).set = _
  rw [View.set_reshape, View.set_slice]; exact Finset.map_refl
theorem set_put (g : Fin 8) (t : Fin 256) : ((xM).access (at4 g (f4 (t.val / 64)) (f8 (t.val / 8)) (f8 t.val))).set = putSet g t := by
  rw [← at4_set g t]
  show ((xM).view.slice _).set = _
  rw [View.set_slice]; exact Finset.map_refl
theorem set_ch (p : Fin 32) : ((pM).access (at16 p)).set = chSet p := by
  rw [← at16_set p]
  show ((pM).view.slice _).set = _
  rw [View.set_slice]; exact Finset.map_refl
theorem set_table : (tableRef tM).view.set = Finset.univ := by
  show ((tM).view.slice _).set = _
  rw [View.set_slice]
  refine Eq.trans Finset.map_refl ?_
  ext x
  rw [Rect.mem_set_unit]
  refine ⟨fun _ => Finset.mem_univ _, fun _ a => ?_⟩
  fin_cases a
  have : (x 0).val < 209715200 := (x 0).isLt
  show 0 ≤ (x 0).val ∧ (x 0).val < 0 + 209715200; omega

/-! ### They cover and do not meet -/

theorem ch_disjoint : ∀ p ∈ (Finset.univ : Finset (Fin 32)), ∀ p' ∈ (Finset.univ : Finset (Fin 32)), p ≠ p' → Disjoint (chSet p) (chSet p') :=
  fun p _ p' _ h => Finset.disjoint_left.mpr fun x hx hx' => h (Fin.ext ((mem_chSet.mp hx).symm.trans (mem_chSet.mp hx')))
theorem ch_cover : Finset.univ.biUnion chSet = Finset.univ := by
  ext x
  have : (x 0).val < 512 := (x 0).isLt
  simp only [Finset.mem_biUnion, Finset.mem_univ, true_and, iff_true, mem_chSet]
  exact ⟨⟨(x 0).val / 16, by omega⟩, rfl⟩
theorem blk_disjoint : ∀ p ∈ (Finset.univ : Finset (Fin 8)), ∀ p' ∈ (Finset.univ : Finset (Fin 8)), p ≠ p' → Disjoint (blkSet p) (blkSet p') :=
  fun p _ p' _ h => Finset.disjoint_left.mpr fun x hx hx' => h (Fin.ext ((mem_blkSet.mp hx).symm.trans (mem_blkSet.mp hx')))
theorem blk_cover : Finset.univ.biUnion blkSet = Finset.univ := by
  ext x
  simp only [Finset.mem_biUnion, Finset.mem_univ, true_and, iff_true, mem_blkSet]
  exact ⟨x 0, rfl⟩
theorem row_disjoint (g : Fin 8) : ∀ p ∈ (Finset.univ : Finset (Fin 32)), ∀ p' ∈ (Finset.univ : Finset (Fin 32)), p ≠ p' → Disjoint (rowSet g p) (rowSet g p') :=
  fun p _ p' _ h => Finset.disjoint_left.mpr fun x hx hx' => h (Fin.ext (by
    have h1 := mem_rowSet.mp hx
    have h2 := mem_rowSet.mp hx'
    omega))
theorem row_cover (g : Fin 8) : Finset.univ.biUnion (rowSet g) = blkSet g := by
  ext x
  have h1' : (x 1).val < 4 := (x 1).isLt
  have h2' : (x 2).val < 8 := (x 2).isLt
  simp only [Finset.mem_biUnion, Finset.mem_univ, true_and, mem_rowSet, mem_blkSet]
  constructor
  · rintro ⟨_, h, _⟩; exact h
  · intro h; exact ⟨⟨8 * (x 1).val + (x 2).val, by omega⟩, h, by show (x 1).val = (8 * (x 1).val + (x 2).val) / 8; omega,
      by show (x 2).val = (8 * (x 1).val + (x 2).val) % 8; omega⟩
theorem put_disjoint (g : Fin 8) : ∀ p ∈ (Finset.univ : Finset (Fin 256)), ∀ p' ∈ (Finset.univ : Finset (Fin 256)), p ≠ p' → Disjoint (putSet g p) (putSet g p') :=
  fun p _ p' _ h => Finset.disjoint_left.mpr fun x hx hx' => h (Fin.ext (by
    have h1 := mem_putSet.mp hx
    have h2 := mem_putSet.mp hx'
    omega))
theorem put_cover (g : Fin 8) : Finset.univ.biUnion (putSet g) = blkSet g := by
  ext x
  have h1' : (x 1).val < 4 := (x 1).isLt
  have h2' : (x 2).val < 8 := (x 2).isLt
  have h3' : (x 3).val < 128 := (x 3).isLt
  simp only [Finset.mem_biUnion, Finset.mem_univ, true_and, mem_putSet, mem_blkSet]
  constructor
  · rintro ⟨_, h, _⟩; exact h
  · intro h
    refine ⟨⟨64 * (x 1).val + 8 * (x 2).val + (x 3).val / 16, by omega⟩, h, ?_, ?_, ?_⟩
    · show (x 1).val = (64 * (x 1).val + 8 * (x 2).val + (x 3).val / 16) / 64; omega
    · show (x 2).val = (64 * (x 1).val + 8 * (x 2).val + (x 3).val / 16) / 8 % 8; omega
    · show (x 3).val / 16 = (64 * (x 1).val + 8 * (x 2).val + (x 3).val / 16) % 8; omega

end Cert.Proof.Gather
-- ==== Proof.Tile.Lists.lean ====
/- The first part of the tile's run: the tile's rows and columns fetched, their flat places computed, and a feature group's
   index lists written. -/
module

public import proofs.«01_k».proof.Proof.Tile.Sets

@[expose] public section

noncomputable section

namespace Cert.Proof.Gather

open Cert.KernelIdeal Cert.KernelIdeal.Gen Cert.KernelIdeal.Rolled
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords) (O : CellTallies nD τ sig (HIx 1)) (W : Waits sig (HIx 1))

/-- The tile's program against a postcondition. -/
abbrev wpT (Q : PUnit → sProp (MT nD τ sig (HIx 1) (Elt F) ℕ UU ℕ)) (p : PG F L) : sProp (MT nD τ sig (HIx 1) (Elt F) ℕ UU ℕ) :=
  wp frame (wpE (defs₀ (F := F)) 𝒱₀ (thr d L) none) Set.univ p Q

/-- What the tile owes, whatever waits of its own it has recorded besides those it came with, and that it may wait. -/
def owed : sProp (MT nD τ sig (HIx 1) (Elt F) ℕ UU ℕ) :=
  iprop(Transfers.MayWaits (thr d L) (none : HIx 1) O ∗ ∃ W', ⌜∀ p ∈ W', p ∈ W ∨ p.2 = none⌝ ∗ owes (thr d L) O W')

/-- One more wait of the tile's own recorded. -/
theorem owed_insert {W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with hp | hp
  · exact .inr (hp ▸ rfl)
  · exact h p hp

variable (Q : PUnit → sProp (MT nD τ sig (HIx 1) (Elt F) ℕ UU ℕ))

/-- The tile's 512 entries of a list, as its copies name them. -/
abbrev listPart (src : Memref sig .scVector .hbm S16384 .i32) : Memref sig .scVector .hbm S512 .i32 :=
  src.slice (Rect.unit (s := S16384) (k0_off1 L) S512.size (k0_off1_inb L)) (fun _ => rfl)

/-- The copy of the tile's 512 entries of a list: the tile's buffer holds them. -/
theorem fetch_run (src : Memref sig .scVector .hbm S16384 .i32) (dst : Memref sig .scVector .vmem S512 .i32) (hdst : dst.IsWhole) (sem : DmaSem sig)
    (hc : 0 < dst.view.dmaCredit)
    (q : PosShare TreeShare) (fs : Buf (Elt F) (src.view.loc (thr d L))) (fd : Buf (Elt F) (dst.view.loc (thr d L))) (k : PG F L) :
    iprop((src.view.loc (thr d L) ↦{q} fs) ∗ (dst.view.loc (thr d L) ↦{fullShare} fd) ∗ semVal (thr d L, SemLoc.dma sem) 0 ∗ owed d L O W)
      ⊢ iprop((iprop((src.view.loc (thr d L) ↦{q} fs)
            ∗ (dst.view.loc (thr d L) ↦{fullShare} (dst.view.write (Elt F) fd ((listPart L src).view.read (Elt F) fs) Finset.univ))
            ∗ semVal (thr d L, SemLoc.dma sem) 0 ∗ owed d L O W) -∗ wpT d L Q k)
          -∗ wpT d L Q (fetch L src dst hdst sem k)) := by
  unfold fetch owed
  iintro ⟨Hs, Hd, Hv, #Hmw, %W', %hW, HO⟩ Hk
  ihave Hss := (pointsTo_split_subset (q := q) (f := fs) (S := Finset.univ) (Finset.subset_univ (listPart L src).view.set)).1 $$ Hs
  icases Hss with ⟨Hs, Hr⟩
  iapply (Transfers.wp_dmaLocal countersEmb 𝒱₀ (thr d L) none (none : HIx 1) dst.view.dmaCredit rfl hc (Finset.subset_univ _)) $$ [Hs Hd Hv]
  · isplitl [Hs]; · iexact Hs
    isplitl [Hd] <;> iassumption
  iintro Hfl
  iapply (Transfers.wp_waitLocalO countersEmb 𝒱₀ (thr d L) none (none : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  ihave Hs := (pointsTo_split_subset (q := q) (f := fs) (S := Finset.univ) (Finset.subset_univ (listPart L src).view.set)).2 $$ [Hs Hr]
  · isplitl [Hs] <;> iassumption
  iapply Hk
  isplitl [Hs]; · iexact Hs
  isplitl [Hd]; · iexact Hd
  isplitl [Hv]; · iexact Hv
  isplitr; · iexact Hmw
  iexists _; isplitr
  swap; · iexact HO
  ipureintro; exact owed_insert W hW _

variable (R C : S16384.Idx → BitVec 32)

theorem off1_val : (k0_off1 L 0) = first L := by
  have h0 : (L 0).val < 2 := (L 0).isLt
  have h1 : (L 1).val < 16 := (L 1).isLt
  rw [k0_off1_eq]
  unfold first
  simp
  omega

/-- What is read there of a list held whole. -/
theorem read_r (A : S16384.Idx → BitVec 32) : (listPart L rM).view.read (Elt F) A = partOf A L := by
  funext x
  unfold partOf
  show A _ = A _
  congr 1
  funext a; fin_cases a; apply Fin.ext
  have hx : (x 0).val < 512 := (x 0).isLt
  have h0 : (L 0).val < 2 := (L 0).isLt
  have h1 : (L 1).val < 16 := (L 1).isLt
  have e := off1_val L
  have hf : first L = ((L 1).val * 2 + (L 0).val) * 512 := rfl
  show k0_off1 L 0 + 1 * (x 0).val = (first L + (x 0).val) % 16384
  omega
theorem read_c (A : S16384.Idx → BitVec 32) : (listPart L cM).view.read (Elt F) A = partOf A L := read_r L A

/-! ### The flat places -/

theorem baseWord_apply (r c : IVec S16 32) (y : S16.Idx) : baseWord r c y = place (r y) (c y) := rfl

/-- A round of the first loop. -/
theorem base_step (A B : S512.Idx → BitVec 32) (f : S512.Idx → BitVec 32) (p : Fin 32) (k : PG F L) :
    iprop(iprop(((aM).view.loc (thr d L) ↦{fullShare} (A : Buf (Elt F) ((aM).view.loc (thr d L))))
          ∗ ((bM).view.loc (thr d L) ↦{fullShare} (B : Buf (Elt F) ((bM).view.loc (thr d L)))))
        ∗ ((pM).view.loc (thr d L) ↦[chSet p]{fullShare} (f : Buf (Elt F) ((pM).view.loc (thr d L)))))
      ⊢ iprop((iprop(iprop(((aM).view.loc (thr d L) ↦{fullShare} (A : Buf (Elt F) ((aM).view.loc (thr d L))))
          ∗ ((bM).view.loc (thr d L) ↦{fullShare} (B : Buf (Elt F) ((bM).view.loc (thr d L)))))
        ∗ ((pM).view.loc (thr d L) ↦[chSet p]{fullShare} (fun x => place (A x) (B x) : Buf (Elt F) ((pM).view.loc (thr d L))))) -∗ wpT d L Q k)
          -∗ wpT d L Q (baseStep L aM bM pM p.val k)) := by
  have hp : f32 p.val = p := Fin.ext (Nat.mod_eq_of_lt p.isLt)
  have hs : ((pM).access (at16 (f32 p.val))).set = chSet p := by rw [hp]; exact set_ch p
  unfold baseStep baseHalf
  iintro ⟨⟨Ha, Hb⟩, Hp⟩ Hk
  iapply (wp_load 𝒱₀ (thr d L) none Set.univ (Finset.subset_univ _)) $$ Ha
  iintro Ha
  iapply (wp_load 𝒱₀ (thr d L) none Set.univ (Finset.subset_univ _)) $$ Hb
  iintro Hb
  iapply (wp_load_rect 𝒱₀ (thr d L) none Set.univ (m := pM) (r := at16 (f32 p.val)) (S := chSet p) hs.subset) $$ Hp
  iintro Hp
  iapply (wp_store 𝒱₀ (thr d L) none Set.univ (m := pM) (r := at16 (f32 p.val)) (S := chSet p) hs.subset) $$ Hp
  iintro Hp
  iapply Hk
  isplitl [Ha Hb]
  · isplitl [Ha] <;> iassumption
  iapply (Entails.of_eq (pointsTo_congr fun x hx => ?_)) $$ Hp
  rw [← hs] at hx
  obtain ⟨y, -, rfl⟩ := Finset.mem_map.mp hx
  rw [View.write_emb_of_mem _ _ (Finset.mem_univ y)]
  refine (cast_eq _ _).trans ?_
  simp only [shapeCast, Shape.reshapeEquiv_self, baseWord_apply]
  exact congrArg₂ place rfl rfl

/-- The first loop. -/
theorem base_run (f : S512.Idx → BitVec 32) (k : PG F L) :
    iprop(iprop(((aM).view.loc (thr d L) ↦{fullShare} (partOf R L : Buf (Elt F) ((aM).view.loc (thr d L))))
          ∗ ((bM).view.loc (thr d L) ↦{fullShare} (partOf C L : Buf (Elt F) ((bM).view.loc (thr d L)))))
        ∗ ((pM).view.loc (thr d L) ↦{fullShare} (f : Buf (Elt F) ((pM).view.loc (thr d L)))))
      ⊢ iprop((iprop(iprop(((aM).view.loc (thr d L) ↦{fullShare} (partOf R L : Buf (Elt F) ((aM).view.loc (thr d L))))
          ∗ ((bM).view.loc (thr d L) ↦{fullShare} (partOf C L : Buf (Elt F) ((bM).view.loc (thr d L)))))
        ∗ ((pM).view.loc (thr d L) ↦{fullShare} (places R C L : Buf (Elt F) ((pM).view.loc (thr d L))))) -∗ wpT d L Q k)
          -∗ wpT d L Q (rounds (baseStep L aM bM pM) 32 32 k)) := by
  have h (f : S512.Idx → BitVec 32) : ((pM).view.loc (thr d L) ↦{fullShare} (f : Buf (Elt F) ((pM).view.loc (thr d L))) : sProp 𝕄)
      = bigSep Finset.univ fun p => (pM).view.loc (thr d L) ↦[chSet p]{fullShare} (f : Buf (Elt F) ((pM).view.loc (thr d L))) := by
    rw [← pointsTo_biUnion Finset.univ _ ch_disjoint, ch_cover]
  rw [h f, h (places R C L)]
  exact loop_run (wpT d L Q) _ (fun _ => _) _ _ (fun p k => base_step d L Q (partOf R L) (partOf C L) f p k) k

/-! ### The index lists -/

/-- A load of part of the index block and a store over it. -/
theorem put_run (r : Rect S8x4x8x128) (S : Finset S8x4x8x128.Idx) (hS : ((xM).access r).set = S) (hl : (xM).view.LoadsAt r.toLoadRect)
    (hx : ((xM).access r).Stores Finset.univ) (hm : (Finset.univ : Finset r.shape.Idx) = Finset.univ ∨ ∀ a, r.stride a = 1) (w : r.shape.Idx → BitVec 32)
    (f : S8x4x8x128.Idx → BitVec 32) (k : PG F L) :
    ((xM).view.loc (thr d L) ↦[S]{fullShare} (f : Buf (Elt F) ((xM).view.loc (thr d L))) : sProp 𝕄)
      ⊢ iprop((((xM).view.loc (thr d L) ↦[S]{fullShare} (((xM).access r).write (Elt F) f w Finset.univ : Buf (Elt F) ((xM).view.loc (thr d L)))) -∗ wpT d L Q k)
        -∗ wpT d L Q (.op (.load xM r.toLoadRect hl) fun _ => .op (.store xM r w Finset.univ hx hm) fun _ => k)) := by
  iintro Hx Hk
  iapply (wp_load_rect 𝒱₀ (thr d L) none Set.univ hS.subset) $$ Hx
  iintro Hx
  iapply (wp_store 𝒱₀ (thr d L) none Set.univ hS.subset) $$ Hx
  iintro Hx
  iapply Hk $$ Hx

/-- A round of the filling. -/
theorem idx_step (f : S8x4x8x128.Idx → BitVec 32) (g : Fin 8) (t : Fin 256) (k : PG F L) :
    iprop(((pM).view.loc (thr d L) ↦{fullShare} (places R C L : Buf (Elt F) ((pM).view.loc (thr d L))))
        ∗ ((xM).view.loc (thr d L) ↦[putSet g t]{fullShare} (f : Buf (Elt F) ((xM).view.loc (thr d L)))))
      ⊢ iprop((iprop(((pM).view.loc (thr d L) ↦{fullShare} (places R C L : Buf (Elt F) ((pM).view.loc (thr d L))))
        ∗ ((xM).view.loc (thr d L) ↦[putSet g t]{fullShare} (lists R C L : Buf (Elt F) ((xM).view.loc (thr d L))))) -∗ wpT d L Q k)
          -∗ wpT d L Q (idxStep L pM xM g t.val k)) := by
  have hs := set_put g t
  have ht := t.isLt
  unfold idxStep idxLoad idxHalf idxPut
  iintro ⟨Hp, Hx⟩ Hk
  iapply (wp_load 𝒱₀ (thr d L) none Set.univ (Finset.subset_univ _)) $$ Hp
  iintro Hp
  iapply (put_run d L Q (at4 g (f4 (t.val / 64)) (f8 (t.val / 8)) (f8 t.val)) (putSet g t) hs _ _ _ _ f k) $$ Hx
  iintro Hx
  iapply Hk
  isplitl [Hp]; · iexact Hp
  iapply (Entails.of_eq (pointsTo_congr fun x hx => ?_)) $$ Hx
  rw [← hs] at hx
  obtain ⟨y, -, rfl⟩ := Finset.mem_map.mp hx
  rw [View.write_emb_of_mem _ _ (Finset.mem_univ y)]
  have hy0 : (y 0).val < 1 := (y 0).isLt
  have hy1 : (y 1).val < 1 := (y 1).isLt
  have hy2 : (y 2).val < 1 := (y 2).isLt
  have hy3 : (y 3).val < 16 := (y 3).isLt
  have hr : Shape.reshapeEquiv c16_4 y = (fun a => ⟨(y 3).val, by fin_cases a; exact hy3⟩ : S16.Idx) :=
    Shape.reshapeEquiv_eq_of_rowMajor _ (by
      rw [Shape.rowMajor_val_four, Shape.rowMajor_val_one]
      show (y 3).val = (((y 0).val * 1 + (y 1).val) * 1 + (y 2).val) * 16 + (y 3).val
      omega)
  show shapeCast S1x1x1x16 (raised g t.val _) c16_4 y = _
  unfold shapeCast raised
  rw [hr]
  simp only [shapeCast, Shape.reshapeEquiv_self, addi]
  show IntOp.addi (place (R (listAt (first L + (16 * ((8 * (t.val / 64) + t.val % 8) % 32) + 1 * (y 3).val))))
      (C (listAt (first L + (16 * ((8 * (t.val / 64) + t.val % 8) % 32) + 1 * (y 3).val))))) (BitVec.ofNat 32 (131072 * g.val + 128 * (t.val / 8 % 8)))
    = flat (R (listAt (first L + (128 * (t.val / 64 % 4 + 1 * (y 1).val) + (16 * (t.val % 8) + 1 * (y 3).val)))))
      (C (listAt (first L + (128 * (t.val / 64 % 4 + 1 * (y 1).val) + (16 * (t.val % 8) + 1 * (y 3).val)))))
      (g.val + 1 * (y 0).val) (t.val / 8 % 8 + 1 * (y 2).val)
  rw [show (16 * ((8 * (t.val / 64) + t.val % 8) % 32) + 1 * (y 3).val) = (128 * (t.val / 64 % 4 + 1 * (y 1).val) + (16 * (t.val % 8) + 1 * (y 3).val)) by omega,
    show g.val + 1 * (y 0).val = g.val by omega, show t.val / 8 % 8 + 1 * (y 2).val = t.val / 8 % 8 by omega]
  rfl

/-- The filling of a feature group's lists. -/
theorem idx_run (f : S8x4x8x128.Idx → BitVec 32) (g : Fin 8) (k : PG F L) :
    iprop(((pM).view.loc (thr d L) ↦{fullShare} (places R C L : Buf (Elt F) ((pM).view.loc (thr d L))))
        ∗ ((xM).view.loc (thr d L) ↦[blkSet g]{fullShare} (f : Buf (Elt F) ((xM).view.loc (thr d L)))))
      ⊢ iprop((iprop(((pM).view.loc (thr d L) ↦{fullShare} (places R C L : Buf (Elt F) ((pM).view.loc (thr d L))))
        ∗ ((xM).view.loc (thr d L) ↦[blkSet g]{fullShare} (lists R C L : Buf (Elt F) ((xM).view.loc (thr d L))))) -∗ wpT d L Q k)
          -∗ wpT d L Q (rounds (idxStep L pM xM g) 256 256 k)) := by
  have h (f : S8x4x8x128.Idx → BitVec 32) : ((xM).view.loc (thr d L) ↦[blkSet g]{fullShare} (f : Buf (Elt F) ((xM).view.loc (thr d L))) : sProp 𝕄)
      = bigSep Finset.univ fun t => (xM).view.loc (thr d L) ↦[putSet g t]{fullShare} (f : Buf (Elt F) ((xM).view.loc (thr d L))) := by
    rw [← pointsTo_biUnion Finset.univ _ (put_disjoint g), put_cover]
  rw [h f, h (lists R C L)]
  exact loop_run (wpT d L Q) _ (fun _ => _) _ _ (fun t k => idx_step d L Q R C f g t k) k

end Cert.Proof.Gather
-- ==== Proof.Tile.Group.lean ====
/- A feature group's 32 gathers, outstanding together on one semaphore: their starts, their waits, and what they brought. -/
module

public import proofs.«01_k».proof.Proof.Tile.Lists

@[expose] public section

noncomputable section

namespace Cert.Proof.Gather

open Cert.KernelIdeal Cert.KernelIdeal.Gen Cert.KernelIdeal.Rolled Cert.Streams
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The gathers take single entries of the flat table. -/
abbrev hgT : S209715200.Gathers 0 S128 := Shapes1.Facts₀.gathers_S209715200_S128

variable (d : Dev nD) (L : grid0.Coords)

section Rows

variable (dst : Fin 32 → Memref sig .scVector .vmem S128 .f32) (offs : Fin 32 → Memref sig .scVector .vmem S128 .i32)
  (q : Fin 32 → PosShare TreeShare)
  (fs : Buf (Elt F) ((tableRef tM).view.loc (thr d L))) (fd : ∀ j, Buf (Elt F) ((dst j).view.loc (thr d L)))
  (fo : ∀ j, Buf (Elt F) ((offs j).view.loc (thr d L)))
  (hin : ∀ j x, ((offs j).view.read (Elt F) (fo j) x).toNat < S209715200.size hgT.axis)

/-- What entry `i` of gather `j` delivers. -/
def entryAt (j : Fin 32) (i : Fin 128) : sProp (MT nD τ sig (HIx 1) (Elt F) ℕ UU ℕ) :=
  entryD (thr d L) (tableRef tM) (dst j) hgT (offs j) rfl (by decide) (q j) fullShare fs (fd j) (fo j) (SparseCore.rows ((offs j).view.read (Elt F) (fo j)) rfl (hin j)) i

/-- The group's deliveries, gather after gather. -/
def entries (t : Fin 4096) : sProp (MT nD τ sig (HIx 1) (Elt F) ℕ UU ℕ) :=
  entryAt d L dst offs q fs fd fo hin ⟨t.val / 128, by omega⟩ ⟨t.val % 128, Nat.mod_lt _ (by decide)⟩

instance entries_storable (t : Fin 4096) : BI.Storable (upEmb : UEmb _ 𝕄) (entries d L dst offs q fs fd fo hin t) := by
  exact entryD_storable (thr d L) (hn := rfl) ..

/-- The group's batch with `j` entries issued and `u` units waited for. -/
abbrev groupBatch (sem : DmaSem sig) (N : ℕ) (j u : ℕ) : sProp (MT nD τ sig (HIx 1) (Elt F) ℕ UU ℕ) :=
  Transfers.Batch countersEmb (thr d L) (.dma sem) (none : HIx 1) N (entries d L dst offs q fs fd fo hin) j u

/-- Everything delivered: every destination row written with its gather's payload, the lists and the table back. -/
theorem entries_join :
    bigSep Finset.univ (entries d L dst offs q fs fd fo hin)
      ⊢ (bigSep Finset.univ fun j : Fin 32 =>
          iprop(((dst j).view.loc (thr d L) ↦[(dst j).view.set]{fullShare}
              ((dst j).view.write (Elt F) (fd j) (SparseCore.gatherPayload hgT ((tableRef tM).view.read (Elt F) fs) (SparseCore.rows ((offs j).view.read (Elt F) (fo j)) rfl (hin j))) Finset.univ))
            ∗ ((tableRef tM).view.loc (thr d L) ↦[(tableRef tM).view.set]{q j} fs)
            ∗ ((offs j).view.loc (thr d L) ↦[(offs j).view.set]{fullShare} (fo j))) : sProp 𝕄) := by
  rw [bigSep_univ_equiv (finProdFinEquiv : Fin 32 × Fin 128 ≃ Fin 4096), bigSep_univ_prod]
  refine bigSep_mono fun j _ => ?_
  refine (Entails.of_eq (bigSep_congr fun i _ => ?_)).trans (entryD_join (thr d L) (tableRef tM) (dst j) hgT (offs j) rfl (by decide) (q j) fullShare fs (fd j) (fo j) _)
  have e1 : (⟨(finProdFinEquiv (j, i) : Fin 4096).val / 128, by omega⟩ : Fin 32) = j := Fin.ext (by
    show (i.val + 128 * j.val) / 128 = j.val; omega)
  have e2 : (⟨(finProdFinEquiv (j, i) : Fin 4096).val % 128, Nat.mod_lt _ (by decide)⟩ : Fin 128) = i := Fin.ext (by
    show (i.val + 128 * j.val) % 128 = i.val; omega)
  unfold entries
  rw [e1, e2]
  rfl

variable (Q : PUnit → sProp (MT nD τ sig (HIx 1) (Elt F) ℕ UU ℕ))

/-- The start of one gather. -/
theorem gather_step (sem : DmaSem sig) (N : ℕ) (j : Fin 32)
    (hN : ∀ i, ((dst j).slice (S128.rowRect hgT.axis' i) (S128.stride_rowRect hgT.axis' i)).view.dmaCredit = N)
    {hp : (thr d L).2.kind = .scVector} {hsrc : (tableRef tM).view.WordExact} {he : EltTy.f32.bits = 32} {hr : S209715200.StreamRows 0} (k : PG F L) :
    iprop(groupBatch d L dst offs q fs fd fo hin sem N (128 * j.val) 0
        ∗ iprop(((tableRef tM).view.loc (thr d L) ↦[(tableRef tM).view.set]{q j} fs)
          ∗ ((dst j).view.loc (thr d L) ↦[(dst j).view.set]{fullShare} (fd j))
          ∗ ((offs j).view.loc (thr d L) ↦[(offs j).view.set]{fullShare} (fo j))))
      ⊢ iprop((iprop(groupBatch d L dst offs q fs fd fo hin sem N (128 * (j.val + 1)) 0 ∗ emp) -∗ wpT d L Q k)
          -∗ wpT d L Q ((SparseCore.enqueueIndirectGather hp (tableRef tM) (dst j) hgT (offs j) rfl sem hsrc he (Or.inl rfl) hr).bind fun _ => k)) := by
  have hj := j.isLt
  iintro ⟨HB, Ht, Hd, Ho⟩ Hk
  iapply (wp_gatherBatch (thr d L) countersEmb 𝒱₀ none (hg := hgT) (hn := rfl) (none : HIx 1) N hN (by decide) (hin j) (j := 128 * j.val) (n := 4096)
    (by show 128 * j.val + 128 ≤ 4096; omega) (Nat.zero_le _)
    (D := entries d L dst offs q fs fd fo hin) (fun i => ?_)) $$ [HB Ht Hd Ho]
  · have hi : i.val < 128 := i.isLt
    have e1 : (⟨(128 * j.val + i.val) / 128, by omega⟩ : Fin 32) = j := Fin.ext (by
      show (128 * j.val + i.val) / 128 = j.val; omega)
    have e2 : (⟨(128 * j.val + i.val) % 128, Nat.mod_lt _ (by decide)⟩ : Fin 128) = i := Fin.ext (by
      show (128 * j.val + i.val) % 128 = i.val; omega)
    show _ = entryAt d L dst offs q fs fd fo hin ⟨(128 * j.val + i.val) / 128, _⟩ ⟨(128 * j.val + i.val) % 128, _⟩
    rw [e1, e2]
    rfl
  · isplitl [Ht]; · iexact Ht
    isplitl [Hd]; · iexact Hd
    isplitl [Ho]; · iexact Ho
    iexact HB
  · iintro HB
    iapply Hk
    isplitl [HB]
    · iexact HB
    · iempintro

variable (O : CellTallies nD τ sig (HIx 1)) (W : Waits sig (HIx 1))

/-- The wait for one gather. -/
theorem wait_step (sem : DmaSem sig) (N : ℕ) (j : Fin 32) (hC : (dst j).view.dmaCredit = 128 * N)
    {h1 : (tableRef tM).view.WordExact} {h2 : (dst j).view.WordExact} (k : PG F L) :
    iprop(iprop(groupBatch d L dst offs q fs fd fo hin sem N 4096 (128 * N * j.val) ∗ owed d L O W) ∗ emp)
      ⊢ iprop((iprop(iprop(groupBatch d L dst offs q fs fd fo hin sem N 4096 (128 * N * (j.val + 1)) ∗ owed d L O W) ∗ emp) -∗ wpT d L Q k)
          -∗ wpT d L Q (.op (.waitDma2 sem (tableRef tM) (dst j) h1 h2) fun _ => k)) := by
  have hj := j.isLt
  have he : 128 * N * j.val + 128 * N = 128 * N * (j.val + 1) := (Nat.mul_succ _ _).symm
  have hle : 128 * N * j.val + 128 * N ≤ N * 4096 := by
    rw [he, show 128 * N * (j.val + 1) = N * (128 * (j.val + 1)) by rw [Nat.mul_comm 128 N, Nat.mul_assoc]]; exact Nat.mul_le_mul_left _ (by omega)
  rw [← he]
  unfold owed
  iintro ⟨⟨HB, #Hmw, %W', %hW, HO⟩, He⟩ Hk
  iapply (Transfers.wp_waitBatchMulO countersEmb 𝒱₀ (thr d L) none (none : HIx 1) 128 hC hle) $$ [HB HO]
  · isplitl [HB]; · iexact HB
    isplitl [HO]; · iexact HO
    iapply (Transfers.MayWaits.elim (SemLoc.dma sem)) $$ Hmw
  iintro ⟨HB, HO⟩
  iapply Hk
  isplitl [HB HO]
  swap; · iexact He
  isplitl [HB]; · iexact HB
  isplitr; · iexact Hmw
  iexists _; isplitr
  swap; · iexact HO
  ipureintro; exact owed_insert W hW _

end Rows

/-! ### Group `g` -/

variable (T : S209715200.Idx → Elt F .f32) (R C : S16384.Idx → BitVec 32)

abbrev gRow (g : Fin 8) (j : Fin 32) : Memref sig .scVector .vmem S128 .f32 := rowRef gM g (f4 (j.val / 8)) (f8 j.val)
abbrev xRow (g : Fin 8) (j : Fin 32) : Memref sig .scVector .vmem S128 .i32 := rowRef xM g (f4 (j.val / 8)) (f8 j.val)

/-- The entry a row's place names. -/
theorem row_emb {e : EltTy} (m : Memref sig .scVector .vmem S8x4x8x128 e) (g : Fin 8) (j : Fin 32) (y : S128.Idx) :
    (rowRef m g (f4 (j.val / 8)) (f8 j.val)).view.emb y
      = m.view.emb (fun a => ⟨![g.val, j.val / 8, j.val % 8, (y 0).val] a, by
          have := g.isLt; have := j.isLt; have hy : (y 0).val < 128 := (y 0).isLt
          fin_cases a
          · show g.val < 8; omega
          · show j.val / 8 < 4; omega
          · show j.val % 8 < 8; omega
          · exact hy⟩) := by
  have hj := j.isLt
  have hy : (y 0).val < 128 := (y 0).isLt
  show m.view.emb ((Rect.unit (s := S8x4x8x128) ![g.val, (f4 (j.val / 8)).val, (f8 j.val).val, 0] S1x1x1x128.size (inbRow g (f4 (j.val / 8)) (f8 j.val))).emb
    (Shape.reshapeEquiv _ y)) = _
  rw [show Shape.reshapeEquiv _ y = (fun a => ⟨![0, 0, 0, (y 0).val] a, by
      fin_cases a
      · show 0 < 1; omega
      · show 0 < 1; omega
      · show 0 < 1; omega
      · exact hy⟩ : S1x1x1x128.Idx) from
    Shape.reshapeEquiv_eq_of_rowMajor _ (by
      rw [Shape.rowMajor_val_four, Shape.rowMajor_val_one]
      show ((0 * 1 + 0) * 1 + 0) * 128 + (y 0).val = (y 0).val
      omega)]
  congr 1
  funext a; apply Fin.ext
  fin_cases a
  · show g.val + 1 * 0 = g.val; omega
  · show j.val / 8 % 4 + 1 * 0 = j.val / 8; omega
  · show j.val % 8 + 1 * 0 = j.val % 8; omega
  · show 0 + 1 * (y 0).val = (y 0).val; omega

/-- Every list of the group stays in the table. -/
theorem lists_lt (hr : InRange R C) (g : Fin 8) (j : Fin 32) (x : S128.Idx) :
    ((xRow g j).view.read (Elt F) (lists R C L : Buf (Elt F) ((xM).view.loc (thr d L))) x).toNat < S209715200.size hgT.axis := by
  show (lists R C L ((xRow g j).view.emb x)).toNat < 209715200
  exact hr _ _ _ (((xRow g j).view.emb x) 0).isLt (((xRow g j).view.emb x) 2).isLt

/-- A gather's row, written with its payload, holds the entries its list names. -/
theorem row_value (hr : InRange R C) (g : Fin 8) (j : Fin 32) (f : S8x4x8x128.Idx → Elt F .f32) :
    ∀ x ∈ rowSet g j, (gRow g j).view.write (Elt F) (f : Buf (Elt F) ((gM).view.loc (thr d L)))
      (SparseCore.gatherPayload hgT ((tableRef tM).view.read (Elt F) (T : Buf (Elt F) ((tM).view.loc (thr d L))))
        (SparseCore.rows ((xRow g j).view.read (Elt F) (lists R C L : Buf (Elt F) ((xM).view.loc (thr d L)))) rfl (lists_lt L R C hr g j))) Finset.univ x
        = brought T R C L x := by
  intro x hx
  rw [← set_row_g g j] at hx
  obtain ⟨y, -, rfl⟩ := Finset.mem_map.mp hx
  rw [View.write_emb_of_mem _ _ (Finset.mem_univ y)]
  refine (cast_eq _ _).trans ?_
  have hlt := lists_lt (F := F) L R C hr g j y
  show T ((tableRef tM).view.emb _) = T _
  congr 1
  funext a
  fin_cases a
  apply Fin.ext
  show 0 + 1 * (hgT.idx _ y hgT.axis).val = (lists R C L ((gRow g j).view.emb y)).toNat % 209715200
  rw [Shape.Gathers.idx_axis]
  have e : S128.rowMajor.symm ((y hgT.axis').cast rfl) = y := by
    rw [Equiv.symm_apply_eq]; apply Fin.ext; rw [Shape.rowMajor_val_one]; rfl
  have e2 : (gRow g j).view.emb y = (xRow g j).view.emb y := by rw [row_emb, row_emb]; rfl
  rw [e2]
  have e3 : lists R C L ((xRow g j).view.emb y) = (xRow g j).view.read (Elt F) (lists R C L) y := rfl
  have hlt' : (lists R C L ((xRow g j).view.emb y)).toNat < 209715200 := hlt
  rw [Nat.mod_eq_of_lt hlt']
  show 0 + 1 * ((xRow g j).view.read (Elt F) (lists R C L) (S128.rowMajor.symm ((y hgT.axis').cast rfl))).toNat = _
  rw [e, e3]; omega

end Cert.Proof.Gather
-- ==== Proof.Tile.Gathers.lean ====
/- A feature group on the tile: its lists filled and its gathers started; its gathers waited for and its block sent out; and the
   last waits. -/
module

public import proofs.«01_k».proof.Proof.Tile.Group

@[expose] public section

noncomputable section

namespace Cert.Proof.Gather

open Cert.KernelIdeal Cert.KernelIdeal.Gen Cert.KernelIdeal.Rolled Cert.Streams
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords) (O : CellTallies nD τ sig (HIx 1)) (W : Waits sig (HIx 1))
  (Q : PUnit → sProp (MT nD τ sig (HIx 1) (Elt F) ℕ UU ℕ))
  (T : S209715200.Idx → Elt F .f32) (R C : S16384.Idx → BitVec 32) (hr : InRange R C) (q : PosShare TreeShare)

/-- A group's share of the table, and a gather's. -/
def qg (g : Fin 8) : PosShare TreeShare := pieceOf q 8 (by decide) g
def qj (g : Fin 8) (j : Fin 32) : PosShare TreeShare := pieceOf (qg q g) 32 (by decide) j

/-- The parts of the buffers a group uses. -/
abbrev xBlk (g : Fin 8) (f : S8x4x8x128.Idx → BitVec 32) : sProp (MT nD τ sig (HIx 1) (Elt F) ℕ UU ℕ) :=
  iprop((xM).view.loc (thr d L) ↦[blkSet g]{fullShare} (f : Buf (Elt F) ((xM).view.loc (thr d L))))
abbrev gBlk (g : Fin 8) (f : S8x4x8x128.Idx → Elt F .f32) : sProp (MT nD τ sig (HIx 1) (Elt F) ℕ UU ℕ) :=
  iprop((gM).view.loc (thr d L) ↦[blkSet g]{fullShare} (f : Buf (Elt F) ((gM).view.loc (thr d L))))
abbrev tPart (p : PosShare TreeShare) : sProp (MT nD τ sig (HIx 1) (Elt F) ℕ UU ℕ) :=
  iprop((tM).view.loc (thr d L) ↦{p} (T : Buf (Elt F) ((tM).view.loc (thr d L))))
abbrev pAll : sProp (MT nD τ sig (HIx 1) (Elt F) ℕ UU ℕ) :=
  iprop((pM).view.loc (thr d L) ↦{fullShare} (places R C L : Buf (Elt F) ((pM).view.loc (thr d L))))

/-- The units one gathered entry signals. -/
abbrev unitN : ℕ := 32

/-- A group's gathers in flight. -/
abbrev gBatch (f : S8x4x8x128.Idx → Elt F .f32) (g : Fin 8) (sem : DmaSem sig) (j u : ℕ) : sProp (MT nD τ sig (HIx 1) (Elt F) ℕ UU ℕ) :=
  groupBatch d L (gRow g) (xRow g) (qj q g) (T : Buf (Elt F) ((tM).view.loc (thr d L))) (fun _ => (f : Buf (Elt F) ((gM).view.loc (thr d L))))
    (fun _ => (lists R C L : Buf (Elt F) ((xM).view.loc (thr d L)))) (lists_lt L R C hr g) sem unitN j u

theorem xBlk_rows (g : Fin 8) (f : S8x4x8x128.Idx → BitVec 32) :
    (xBlk d L g f : sProp 𝕄) = bigSep Finset.univ fun j => (xRow g j).view.loc (thr d L) ↦[(xRow g j).view.set]{fullShare} (f : Buf (Elt F) ((xM).view.loc (thr d L))) := by
  unfold xBlk
  rw [← row_cover g, pointsTo_biUnion _ _ (row_disjoint g)]
  exact bigSep_congr fun j _ => by rw [set_row_x]

theorem gBlk_rows (g : Fin 8) (f : S8x4x8x128.Idx → Elt F .f32) :
    (gBlk d L g f : sProp 𝕄) = bigSep Finset.univ fun j => (gRow g j).view.loc (thr d L) ↦[(gRow g j).view.set]{fullShare} (f : Buf (Elt F) ((gM).view.loc (thr d L))) := by
  unfold gBlk
  rw [← row_cover g, pointsTo_biUnion _ _ (row_disjoint g)]
  exact bigSep_congr fun j _ => by rw [set_row_g]

theorem tPart_rows (g : Fin 8) :
    (tPart d L T (qg q g) : sProp 𝕄) = bigSep Finset.univ fun j => (tableRef tM).view.loc (thr d L) ↦[(tableRef tM).view.set]{qj q g j} (T : Buf (Elt F) ((tM).view.loc (thr d L))) := by
  unfold tPart
  rw [pointsTo_piecesOf _ _ (by decide : 0 < 32) (qg q g), set_table]
  rfl

/-- The starts of a group's gathers. -/
theorem issue_run (f : S8x4x8x128.Idx → Elt F .f32) (g : Fin 8) (sem : DmaSem sig) (k : PG F L) :
    iprop(gBatch d L T R C hr q f g sem 0 0 ∗ tPart d L T (qg q g) ∗ gBlk d L g f ∗ xBlk d L g (lists R C L))
      ⊢ iprop((gBatch d L T R C hr q f g sem 4096 0 -∗ wpT d L Q k)
          -∗ wpT d L Q (rounds (gatherStep L tM xM gM sem g) 32 32 k)) := by
  rw [tPart_rows, gBlk_rows, xBlk_rows, ← bigSep_sep', ← bigSep_sep']
  have h := loop_run (wpT d L Q) (gatherStep L tM xM gM sem g) (fun j => gBatch d L T R C hr q f g sem (128 * j) 0) _ (fun _ => iprop(emp))
    (fun j k => gather_step d L (gRow g) (xRow g) (qj q g) (T : Buf (Elt F) ((tM).view.loc (thr d L))) (fun _ => (f : Buf (Elt F) ((gM).view.loc (thr d L))))
      (fun _ => (lists R C L : Buf (Elt F) ((xM).view.loc (thr d L)))) (lists_lt L R C hr g) Q sem unitN j (fun i => rfl) k) k
  refine h.trans ?_
  iintro H Hk
  iapply H
  iintro ⟨HB, -⟩
  iapply Hk $$ HB

/-- A group's lists filled and its gathers started. -/
theorem fill_step (gs : Fin 8 → DmaSem sig) (fx : S8x4x8x128.Idx → BitVec 32) (f : S8x4x8x128.Idx → Elt F .f32) (g : Fin 8) (k : PG F L) :
    iprop(pAll d L R C ∗ iprop(xBlk d L g fx ∗ gBlk d L g f ∗ tPart d L T (qg q g) ∗ semVal (thr d L, SemLoc.dma (gs g)) 0))
      ⊢ iprop((iprop(pAll d L R C ∗ gBatch d L T R C hr q f g (gs g) 4096 0) -∗ wpT d L Q k)
          -∗ wpT d L Q (fill L tM pM xM gM gs g.val k)) := by
  have hg : f8 g.val = g := Fin.ext (Nat.mod_eq_of_lt g.isLt)
  unfold fill
  rw [hg]
  iintro ⟨Hp, Hx, Hg, Ht, Hv⟩ Hk
  iapply (idx_run d L Q R C fx g _) $$ [Hp Hx]
  · isplitl [Hp] <;> iassumption
  iintro ⟨Hp, Hx⟩
  imod (Transfers.batch_alloc' countersEmb (thr d L) (none : HIx 1) unitN
    (entries d L (gRow g) (xRow g) (qj q g) (T : Buf (Elt F) ((tM).view.loc (thr d L))) (fun _ => (f : Buf (Elt F) ((gM).view.loc (thr d L))))
      (fun _ => (lists R C L : Buf (Elt F) ((xM).view.loc (thr d L)))) (lists_lt L R C hr g)) (sm := .dma (gs g)) (E := Set.univ)) $$ Hv with HB
  iapply (issue_run d L Q T R C hr q f g (gs g) k) $$ [HB Hx Hg Ht]
  · isplitl [HB]; · iexact HB
    isplitl [Ht]; · iexact Ht
    isplitl [Hg] <;> iassumption
  iintro HB
  iapply Hk
  isplitl [Hp] <;> iassumption

/-- The waits for a group's gathers. -/
theorem wait_run (f : S8x4x8x128.Idx → Elt F .f32) (g : Fin 8) (sem : DmaSem sig) (k : PG F L) :
    iprop(gBatch d L T R C hr q f g sem 4096 0 ∗ owed d L O W)
      ⊢ iprop((iprop(gBatch d L T R C hr q f g sem 4096 (unitN * 4096) ∗ owed d L O W) -∗ wpT d L Q k)
          -∗ wpT d L Q (rounds (waitStep L tM gM sem g) 32 32 k)) := by
  have h := loop_run (wpT d L Q) (waitStep L tM gM sem g) (fun j => iprop(gBatch d L T R C hr q f g sem 4096 (128 * unitN * j) ∗ owed d L O W))
    (fun _ => iprop(emp)) (fun _ => iprop(emp))
    (fun j k => wait_step d L (gRow g) (xRow g) (qj q g) (T : Buf (Elt F) ((tM).view.loc (thr d L))) (fun _ => (f : Buf (Elt F) ((gM).view.loc (thr d L))))
      (fun _ => (lists R C L : Buf (Elt F) ((xM).view.loc (thr d L)))) (lists_lt L R C hr g) Q O W sem unitN j rfl k) k
  rw [show (bigSep Finset.univ fun _ : Fin 32 => (iprop(emp) : sProp 𝕄)) = iprop(emp) from bigSep_emp_const _] at h
  iintro H Hk
  iapply h $$ [H]
  · isplitl [H]
    · iexact H
    · iempintro
  iintro ⟨H, -⟩
  iapply Hk $$ H

/-- A group's gathers all waited for: its block holds what they brought, and everything lent is back. -/
theorem collect (f : S8x4x8x128.Idx → Elt F .f32) (g : Fin 8) (sem : DmaSem sig) :
    (gBatch d L T R C hr q f g sem 4096 (unitN * 4096) : sProp 𝕄)
      ⊢ |={Set.univ}=> iprop(gBlk d L g (brought T R C L) ∗ iprop(tPart d L T (qg q g) ∗ xBlk d L g (lists R C L)) ∗ semVal (thr d L, SemLoc.dma sem) 0) := by
  rw [tPart_rows, gBlk_rows, xBlk_rows, ← bigSep_sep']
  iintro H
  imod (Transfers.batch_collect' countersEmb (thr d L) (N := unitN) (by decide)) $$ H with ⟨H, Hv⟩
  ihave H := (entries_join d L (gRow g) (xRow g) (qj q g) (T : Buf (Elt F) ((tM).view.loc (thr d L))) (fun _ => (f : Buf (Elt F) ((gM).view.loc (thr d L))))
    (fun _ => (lists R C L : Buf (Elt F) ((xM).view.loc (thr d L)))) (lists_lt L R C hr g)) $$ H
  ihave H := (Entails.of_eq (bigSep_sep' ..)) $$ H
  icases H with ⟨Hg, H⟩
  imodintro
  isplitl [Hg]
  · iapply (Entails.of_eq (bigSep_congr fun j _ => pointsTo_congr fun x hx => ?_)) $$ Hg
    exact row_value L T R C hr g j f x (set_row_g g j ▸ hx)
  isplitl [H] <;> iassumption

/-! ### The copies out -/

/-- The tile's part of group `g` of the result. -/
abbrev oPart (g : Fin 8) (f : S8x128x8x128.Idx → Elt F .f32) : sProp (MT nD τ sig (HIx 1) (Elt F) ℕ UU ℕ) :=
  iprop((oM).view.loc (thr d L) ↦[outSet L g]{fullShare} (f : Buf (Elt F) ((oM).view.loc (thr d L))))

/-- What the copy of group `g` delivers. -/
def sent (g : Fin 8) : sProp (MT nD τ sig (HIx 1) (Elt F) ℕ UU ℕ) := iprop(oPart d L g (result T R C) ∗ gBlk d L g (brought T R C L))

instance sent_storable (g : Fin 8) : BI.Storable (upEmb : UEmb _ 𝕄) (sent d L T R C g) := by unfold sent; infer_instance

/-- The units a copy out signals. -/
abbrev unitO : ℕ := 131072

abbrev oBatch (sem : DmaSem sig) (j u : ℕ) : sProp (MT nD τ sig (HIx 1) (Elt F) ℕ UU ℕ) :=
  Transfers.Batch countersEmb (thr d L) (.dma sem) (none : HIx 1) unitO (sent d L T R C) j u

/-- An entry of a block of 4 × 8 × 128 in a block with a leading one. -/
theorem blk_reshape (h : S4x8x128.numel = S1x4x8x128.numel) (y : S4x8x128.Idx) : Shape.reshapeEquiv h y
    = (fun a => ⟨![0, (y 0).val, (y 1).val, (y 2).val] a, by
        have h0 : (y 0).val < 4 := (y 0).isLt
        have h1 : (y 1).val < 8 := (y 1).isLt
        have h2 : (y 2).val < 128 := (y 2).isLt
        fin_cases a
        · show 0 < 1; omega
        · exact h0
        · exact h1
        · exact h2⟩ : S1x4x8x128.Idx) :=
  Shape.reshapeEquiv_eq_of_rowMajor _ (by
    rw [Shape.rowMajor_val_four, Shape.rowMajor_val_three]
    show ((0 * 4 + (y 0).val) * 8 + (y 1).val) * 128 + (y 2).val = ((y 0).val * 8 + (y 1).val) * 128 + (y 2).val
    omega)

/-- What the copy writes is the tile's part of the result. -/
theorem out_value (g : Fin 8) (fo : S8x128x8x128.Idx → Elt F .f32) :
    ∀ x ∈ outSet L g, (outRef L oM g).view.write (Elt F) (fo : Buf (Elt F) ((oM).view.loc (thr d L)))
      ((blkRef gM g).view.read (Elt F) (brought T R C L : Buf (Elt F) ((gM).view.loc (thr d L)))) Finset.univ x = result T R C x := by
  intro x hx
  rw [← set_out L g] at hx
  obtain ⟨y, -, rfl⟩ := Finset.mem_map.mp hx
  rw [View.write_emb_of_mem _ _ (Finset.mem_univ y)]
  refine (cast_eq _ _).trans ?_
  have hw := rowWord_toNat L
  have e1 : (outRef L oM g).view.emb y = (Rect.unit (s := S8x128x8x128) (outOff L g) S1x4x8x128.size (inbOut L g)).emb (Shape.reshapeEquiv _ y) := rfl
  have e2 : (blkRef gM g).view.emb y = (Rect.unit (s := S8x4x8x128) ![g.val, 0, 0, 0] S1x4x8x128.size (inbBlk g)).emb (Shape.reshapeEquiv _ y) := rfl
  show brought T R C L ((blkRef gM g).view.emb y) = result T R C ((outRef L oM g).view.emb y)
  rw [e1, e2, blk_reshape]
  show T (tableAt (flat (R (listAt (first L + (128 * (0 + 1 * (y 0).val) + (0 + 1 * (y 2).val)))))
      (C (listAt (first L + (128 * (0 + 1 * (y 0).val) + (0 + 1 * (y 2).val))))) (g.val + 1 * 0) (0 + 1 * (y 1).val)).toNat)
    = T (tableAt (flat (R (listAt (128 * ((rowWord L).toNat + 1 * (y 0).val) + (0 + 1 * (y 2).val))))
      (C (listAt (128 * ((rowWord L).toNat + 1 * (y 0).val) + (0 + 1 * (y 2).val)))) (g.val + 1 * 0) (0 + 1 * (y 1).val)).toNat)
  rw [show first L + (128 * (0 + 1 * (y 0).val) + (0 + 1 * (y 2).val)) = 128 * ((rowWord L).toNat + 1 * (y 0).val) + (0 + 1 * (y 2).val) by
    unfold first; omega]

/-- A group's gathers waited for and its block sent. -/
theorem drain_step (gs : Fin 8 → DmaSem sig) (osem : DmaSem sig) (f : S8x4x8x128.Idx → Elt F .f32) (fo : S8x128x8x128.Idx → Elt F .f32) (g : Fin 8) (k : PG F L) :
    iprop(iprop(oBatch d L T R C osem g.val 0 ∗ owed d L O W) ∗ iprop(gBatch d L T R C hr q f g (gs g) 4096 0 ∗ oPart d L g fo))
      ⊢ iprop((iprop(iprop(oBatch d L T R C osem (g.val + 1) 0 ∗ owed d L O W)
            ∗ iprop(iprop(tPart d L T (qg q g) ∗ xBlk d L g (lists R C L)) ∗ semVal (thr d L, SemLoc.dma (gs g)) 0)) -∗ wpT d L Q k)
          -∗ wpT d L Q (drain L tM oM gM gs osem g.val k)) := by
  have hg : f8 g.val = g := Fin.ext (Nat.mod_eq_of_lt g.isLt)
  unfold drain
  rw [hg]
  iintro ⟨⟨HB, HO⟩, HG, Ho⟩ Hk
  iapply (wait_run d L O W Q T R C hr q f g (gs g) _) $$ [HG HO]
  · isplitl [HG] <;> iassumption
  iintro ⟨HG, HO⟩
  imod (collect d L T R C hr q f g (gs g)) $$ HG with ⟨Hg, Hr, Hv⟩
  unfold outStep
  iapply (Transfers.wp_dmaBatch countersEmb 𝒱₀ (thr d L) none (src := blkRef gM g) (dst := outRef L oM g) (Sd := outSet L g) (D := sent d L T R C) (j := g.val) (u := 0)
    (fs := (brought T R C L : Buf (Elt F) ((gM).view.loc (thr d L)))) (fd := (fo : Buf (Elt F) ((oM).view.loc (thr d L)))) (q := fullShare)
    (none : HIx 1) unitO rfl (set_out L g).subset g.isLt (Nat.zero_le _) ?_) $$ [Hg Ho HB]
  · show _ ⊢ sent d L T R C g
    unfold sent oPart gBlk
    rw [set_blk]
    iintro ⟨Ho, Hg⟩
    isplitr [Hg]
    · iapply (Entails.of_eq (pointsTo_congr fun x hx => ?_)) $$ Ho
      exact out_value (F := F) L T R C g fo x hx
    · iexact Hg
  · isplitl [Hg]
    · rw [set_blk]; iexact Hg
    isplitl [Ho]; · iexact Ho
    iexact HB
  iintro HB
  iapply Hk
  isplitl [HB HO]
  · isplitl [HB] <;> iassumption
  isplitl [Hr] <;> iassumption

/-- One of the last waits. -/
theorem outWait_step (osem : DmaSem sig) (j : Fin 8) (k : PG F L) :
    iprop(iprop(oBatch d L T R C osem 8 (unitO * j.val) ∗ owed d L O W) ∗ emp)
      ⊢ iprop((iprop(iprop(oBatch d L T R C osem 8 (unitO * (j.val + 1)) ∗ owed d L O W) ∗ emp) -∗ wpT d L Q k)
          -∗ wpT d L Q (outWait L oM gM osem j.val k)) := by
  have hj := j.isLt
  have he : unitO * j.val + 1 * unitO = unitO * (j.val + 1) := by unfold unitO; omega
  have hle : unitO * j.val + 1 * unitO ≤ unitO * 8 := by unfold unitO; omega
  rw [← he]
  unfold owed outWait
  iintro ⟨⟨HB, #Hmw, %W', %hW, HO⟩, He⟩ Hk
  iapply (Transfers.wp_waitBatchMulO countersEmb 𝒱₀ (thr d L) none (none : HIx 1) 1 (by rfl) hle) $$ [HB HO]
  · isplitl [HB]; · iexact HB
    isplitl [HO]; · iexact HO
    iapply (Transfers.MayWaits.elim (SemLoc.dma osem)) $$ Hmw
  iintro ⟨HB, HO⟩
  iapply Hk
  isplitl [HB HO]
  swap; · iexact He
  isplitl [HB]; · iexact HB
  isplitr; · iexact Hmw
  iexists _; isplitr
  swap; · iexact HO
  ipureintro; exact owed_insert W hW _

/-- The last waits: every block is sent. -/
theorem outWait_run (osem : DmaSem sig) (k : PG F L) :
    iprop(oBatch d L T R C osem 8 0 ∗ owed d L O W)
      ⊢ iprop((iprop(oBatch d L T R C osem 8 (unitO * 8) ∗ owed d L O W) -∗ wpT d L Q k)
          -∗ wpT d L Q (rounds (outWait L oM gM osem) 8 8 k)) := by
  have h := loop_run (wpT d L Q) (outWait L oM gM osem) (fun j => iprop(oBatch d L T R C osem 8 (unitO * j) ∗ owed d L O W))
    (fun _ => iprop(emp)) (fun _ => iprop(emp)) (fun j k => outWait_step d L O W Q T R C osem j k) k
  rw [show (bigSep Finset.univ fun _ : Fin 8 => (iprop(emp) : sProp 𝕄)) = iprop(emp) from bigSep_emp_const _] at h
  iintro H Hk
  iapply h $$ [H]
  · isplitl [H]
    · iexact H
    · iempintro
  iintro ⟨H, -⟩
  iapply Hk $$ H

end Cert.Proof.Gather
-- ==== Proof.Tile.Printed.lean ====
/- The printed body of the tile is the rolled one: the same operations in the same order. -/
module

public import proofs.«01_k».proof.Proof.Tile.Rolled

@[expose] public section

noncomputable section

namespace Cert.KernelIdeal.Rolled

open Idealize.ShloMosaic Idealize.SL.Sem

variable {F : FTy → Type} [FloatOps F] [Facts]
open K0.Facts₀
variable (i : grid0.Coords) (arg2 : Memref sig .scVector .hbm S209715200 .f32) (harg2 : arg2.IsWhole) (arg3 : Memref sig .scVector .hbm S16384 .i32) (harg3 : arg3.IsWhole) (arg4 : Memref sig .scVector .hbm S16384 .i32) (harg4 : arg4.IsWhole) (arg5 : Memref sig .scVector .hbm S8x128x8x128 .f32) (harg5 : arg5.IsWhole) (arg6 : Memref sig .scVector .vmem S512 .i32) (harg6 : arg6.IsWhole) (arg7 : Memref sig .scVector .vmem S512 .i32) (harg7 : arg7.IsWhole) (arg8 : Memref sig .scVector .vmem S512 .i32) (harg8 : arg8.IsWhole) (arg9 : Memref sig .scVector .vmem S8x4x8x128 .i32) (harg9 : arg9.IsWhole) (arg10 : Memref sig .scVector .vmem S8x4x8x128 .f32) (harg10 : arg10.IsWhole) (arg11 : DmaSems sig S_) (arg12 : DmaSems sig S_) (arg13 : DmaSems sig S_) (arg14 : DmaSems sig S_) (arg15 : DmaSems sig S_) (arg16 : DmaSems sig S_) (arg17 : DmaSems sig S_) (arg18 : DmaSems sig S_) (arg19 : DmaSems sig S_) (v23723_r0 : DmaSems sig S_) (v23723_r1 : DmaSems sig S_)
/-- Part 728: the two fetches, the first loop, and the filling of group 0 up to its round 163. -/
theorem part728_eq  (K : (Σ' (_ : BitVec 32) (_ : IVec S16 32) (_ : BitVec 32), BitVec 32) → PG F i) :
    (k0_part728 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 ).bind K =
    (fetch i arg3 arg6 harg6 v23723_r0.sem <|
    fetch i arg4 arg7 harg7 v23723_r1.sem <|
    rounds (baseStep i arg6 arg7 arg8) 32 32 <|
    rounds (idxStep i arg8 arg9 0) 163 163 <|
    idxLoad i arg8 163 fun v => K ⟨(Scalar.addi (Scalar.muli (BitVec.ofNat 32 (i 1).val) 2#32) (BitVec.ofNat 32 (i 0).val)), raised 0 163 v, 2#32, 4#32⟩) := rfl

/-- Part 729: from there to group 1's round 91. -/
theorem part729_eq (w : IVec S16 32) (x : BitVec 32) (y : BitVec 32) (K : (Vec F S16 .i32) → PG F i) :
    (k0_part729 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 w x y).bind K =
    (idxHalf i arg9 0 163 w <|
    rounds (idxStep i arg8 arg9 0) 256 92 <|
    rounds (gatherStep i arg2 arg9 arg10 arg11.sem 0) 32 32 <|
    rounds (idxStep i arg8 arg9 1) 91 91 <|
    idxLoad i arg8 91 K) := rfl

/-- Part 730: from there to group 2's round 18. -/
theorem part730_eq (v : Vec F S16 .i32) (K : (Σ' (_ : IVec S16 32), BitVec 32) → PG F i) :
    (k0_part730 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 v).bind K =
    (idxHalf i arg9 1 91 (raised 1 91 v) <|
    rounds (idxStep i arg8 arg9 1) 256 164 <|
    rounds (gatherStep i arg2 arg9 arg10 arg12.sem 1) 32 32 <|
    rounds (idxStep i arg8 arg9 2) 18 18 <|
    idxLoad i arg8 18 fun v => K ⟨raised 2 18 v, 2#32⟩) := rfl

/-- Part 731: from there to group 2's round 230. -/
theorem part731_eq (w : IVec S16 32) (x : BitVec 32) (K : (Σ' (_ : IVec S16 32), BitVec 32) → PG F i) :
    (k0_part731 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 w x).bind K =
    (idxHalf i arg9 2 18 w <|
    rounds (idxStep i arg8 arg9 2) 230 211 <|
    idxLoad i arg8 230 fun v => K ⟨raised 2 230 v, 2#32⟩) := rfl

/-- Part 732: from there to group 3's round 157. -/
theorem part732_eq (w : IVec S16 32) (x : BitVec 32) (K : (IVec S1x1x1x16 32) → PG F i) :
    (k0_part732 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 w x).bind K =
    (idxHalf i arg9 2 230 w <|
    rounds (idxStep i arg8 arg9 2) 256 25 <|
    rounds (gatherStep i arg2 arg9 arg10 arg13.sem 2) 32 32 <|
    rounds (idxStep i arg8 arg9 3) 157 157 <|
    idxLoad i arg8 157 fun v => .op (.load arg9 (at4 3 (f4 (157 / 64)) (f8 (157 / 8)) (f8 157)).toLoadRect (View.loadsAt_vmem h1x16)) fun _ : Vec F S1x1x1x16 .i32 => K (shapeCast S1x1x1x16 (raised 3 157 v) c16_4)) := rfl

/-- Part 733: from there to group 4's round 85. -/
theorem part733_eq (w : IVec S1x1x1x16 32) (K : (Σ' (_ : IVec S16 32) (_ : BitVec 32), BitVec 32) → PG F i) :
    (k0_part733 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 w).bind K =
    (idxPut i arg9 3 157 w <|
    rounds (idxStep i arg8 arg9 3) 256 98 <|
    rounds (gatherStep i arg2 arg9 arg10 arg14.sem 3) 32 32 <|
    rounds (idxStep i arg8 arg9 4) 85 85 <|
    idxLoad i arg8 85 fun v => K ⟨raised 4 85 v, 4#32, 1#32⟩) := rfl

/-- Part 734: from there to group 5's round 13. -/
theorem part734_eq (w : IVec S16 32) (x : BitVec 32) (y : BitVec 32) (K : (PUnit) → PG F i) :
    (k0_part734 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 w x y).bind K =
    (idxHalf i arg9 4 85 w <|
    rounds (idxStep i arg8 arg9 4) 256 170 <|
    rounds (gatherStep i arg2 arg9 arg10 arg15.sem 4) 32 32 <|
    rounds (idxStep i arg8 arg9 5) 13 13 <|
    K ⟨⟩) := rfl

/-- Part 735: from there to group 5's round 224. -/
theorem part735_eq  (K : (IVec S16 32) → PG F i) :
    (k0_part735 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 ).bind K =
    (rounds (idxStep i arg8 arg9 5) 224 211 <|
    idxLoad i arg8 224 fun v => K (raised 5 224 v)) := rfl

/-- Part 736: from there to group 6's round 152. -/
theorem part736_eq (w : IVec S16 32) (K : (Σ' (_ : IVec S16 32), IVec S16 32) → PG F i) :
    (k0_part736 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 w).bind K =
    (idxHalf i arg9 5 224 w <|
    rounds (idxStep i arg8 arg9 5) 256 31 <|
    rounds (gatherStep i arg2 arg9 arg10 arg16.sem 5) 32 32 <|
    rounds (idxStep i arg8 arg9 6) 152 152 <|
    idxLoad i arg8 152 fun v => K ⟨shapeCast S16 v c16, broadcast S16 786816#32⟩) := rfl

/-- Part 737: from there to group 7's round 79. -/
theorem part737_eq (w : IVec S16 32) (w' : IVec S16 32) (K : (Σ' (_ : IVec S16 32), Vec F S1x1x1x16 .i32) → PG F i) :
    (k0_part737 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 w w').bind K =
    (idxHalf i arg9 6 152 (addi w w') <|
    rounds (idxStep i arg8 arg9 6) 256 103 <|
    rounds (gatherStep i arg2 arg9 arg10 arg17.sem 6) 32 32 <|
    rounds (idxStep i arg8 arg9 7) 79 79 <|
    idxLoad i arg8 79 fun v => .op (.load arg9 (at4 7 (f4 (79 / 64)) (f8 (79 / 8)) (f8 79)).toLoadRect (View.loadsAt_vmem h1x16)) fun u : Vec F S1x1x1x16 .i32 => K ⟨raised 7 79 v, u⟩) := rfl

/-- Part 738: the rest of the filling, and the first eight waits. -/
theorem part738_eq (w : IVec S16 32) (u : Vec F S1x1x1x16 .i32) (K : (PUnit) → PG F i) :
    (k0_part738 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 w u).bind K =
    (idxPut i arg9 7 79 (shapeCast S1x1x1x16 w c16_4) <|
    rounds (idxStep i arg8 arg9 7) 256 176 <|
    rounds (gatherStep i arg2 arg9 arg10 arg18.sem 7) 32 32 <|
    rounds (waitStep i arg2 arg10 arg11.sem 0) 8 8 <|
    K ⟨⟩) := rfl

/-- Part 739: the waits and copies out up to group 7's wait 13. -/
theorem part739_eq (x : BitVec 32) (K : (PUnit) → PG F i) :
    (k0_part739 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 x).bind K =
    (rounds (waitStep i arg2 arg10 arg11.sem 0) 32 24 <|
    outStep i arg5 arg10 arg19.sem 0 <|
    rounds (waitStep i arg2 arg10 arg12.sem 1) 32 32 <|
    outStep i arg5 arg10 arg19.sem 1 <|
    rounds (waitStep i arg2 arg10 arg13.sem 2) 32 32 <|
    outStep i arg5 arg10 arg19.sem 2 <|
    rounds (waitStep i arg2 arg10 arg14.sem 3) 32 32 <|
    outStep i arg5 arg10 arg19.sem 3 <|
    rounds (waitStep i arg2 arg10 arg15.sem 4) 32 32 <|
    outStep i arg5 arg10 arg19.sem 4 <|
    rounds (waitStep i arg2 arg10 arg16.sem 5) 32 32 <|
    outStep i arg5 arg10 arg19.sem 5 <|
    rounds (waitStep i arg2 arg10 arg17.sem 6) 32 32 <|
    outStep i arg5 arg10 arg19.sem 6 <|
    rounds (waitStep i arg2 arg10 arg18.sem 7) 13 13 <|
    K ⟨⟩) := rfl

/-- Two runs of rounds, one after the other, are one run. -/
theorem rounds_add {P : Type 1} (f : ℕ → P → P) (e b : ℕ) (k : P) : ∀ a, rounds f e (a + b) k = rounds f (e - b) a (rounds f e b k)
  | 0 => by rw [Nat.zero_add]; rfl
  | a + 1 => by
    rw [Nat.add_right_comm a 1 b]
    show f (e - (a + b + 1)) (rounds f e (a + b) k) = f (e - b - (a + 1)) (rounds f (e - b) a (rounds f e b k))
    rw [rounds_add f e b k a, Nat.sub_sub, show b + (a + 1) = a + b + 1 by omega]

universe v in
/-- Binding twice is binding once, to what follows in turn. -/
theorem bind_bind {E : Type → Type v} {α β γ : Type} (p : Prog E α) (f : α → Prog E β) (g : β → Prog E γ) :
    (p.bind f).bind g = p.bind fun x => (f x).bind g := Prog.bind_assoc p f g

universe v in
/-- The two spellings of a bind. -/
theorem bind_spell {E : Type → Type v} {α β : Type} (p : Prog E α) (f : α → Prog E β) : (p >>= f) = p.bind f := rfl

/-- The eight semaphores of the gathers, by feature group. -/
abbrev gsems (g : Fin 8) : DmaSem sig := (![arg11, arg12, arg13, arg14, arg15, arg16, arg17, arg18] g).sem

/-- The filling of group `g` cut before its round `a`. -/
theorem fill_cut (g a b : ℕ) (h : a + b = 256) (k : PG F i) : fill i arg2 arg8 arg9 arg10 (gsems arg11 arg12 arg13 arg14 arg15 arg16 arg17 arg18) g k =
    (rounds (idxStep i arg8 arg9 (f8 g)) a a <| rounds (idxStep i arg8 arg9 (f8 g)) 256 b <|
      rounds (gatherStep i arg2 arg9 arg10 ((gsems arg11 arg12 arg13 arg14 arg15 arg16 arg17 arg18) (f8 g)) (f8 g)) 32 32 k) := by
  have := rounds_add (idxStep (F := F) i arg8 arg9 (f8 g)) 256 b
    (rounds (gatherStep i arg2 arg9 arg10 ((gsems arg11 arg12 arg13 arg14 arg15 arg16 arg17 arg18) (f8 g)) (f8 g)) 32 32 k) a
  rw [h, show 256 - b = a by omega] at this
  exact this

/-- The same with a second cut, before round `c`. -/
theorem fill_cut₂ (g a b c : ℕ) (h : a + b ≤ 256) (hc : a + b = c) (k : PG F i) : fill i arg2 arg8 arg9 arg10 (gsems arg11 arg12 arg13 arg14 arg15 arg16 arg17 arg18) g k =
    (rounds (idxStep i arg8 arg9 (f8 g)) a a <| rounds (idxStep i arg8 arg9 (f8 g)) c b <|
      rounds (idxStep i arg8 arg9 (f8 g)) 256 (256 - c) <|
      rounds (gatherStep i arg2 arg9 arg10 ((gsems arg11 arg12 arg13 arg14 arg15 arg16 arg17 arg18) (f8 g)) (f8 g)) 32 32 k) := by
  subst hc
  rw [fill_cut i arg2 arg8 arg9 arg10 arg11 arg12 arg13 arg14 arg15 arg16 arg17 arg18 g a (256 - a) (by omega) k]
  have := rounds_add (idxStep (F := F) i arg8 arg9 (f8 g)) 256 (256 - (a + b))
    (rounds (gatherStep i arg2 arg9 arg10 ((gsems arg11 arg12 arg13 arg14 arg15 arg16 arg17 arg18) (f8 g)) (f8 g)) 32 32 k) b
  rw [show b + (256 - (a + b)) = 256 - a by omega, show 256 - (256 - (a + b)) = a + b by omega] at this
  rw [this]

/-- The waits of group `g` cut before wait `a`. -/
theorem drain_cut (g a b : ℕ) (h : a + b = 32) (k : PG F i) : drain i arg2 arg5 arg10 (gsems arg11 arg12 arg13 arg14 arg15 arg16 arg17 arg18) arg19.sem g k =
    (rounds (waitStep i arg2 arg10 ((gsems arg11 arg12 arg13 arg14 arg15 arg16 arg17 arg18) (f8 g)) (f8 g)) a a <| rounds (waitStep i arg2 arg10 ((gsems arg11 arg12 arg13 arg14 arg15 arg16 arg17 arg18) (f8 g)) (f8 g)) 32 b <|
      outStep i arg5 arg10 arg19.sem (f8 g) k) := by
  have := rounds_add (waitStep (F := F) i arg2 arg10 ((gsems arg11 arg12 arg13 arg14 arg15 arg16 arg17 arg18) (f8 g)) (f8 g)) 32 b (outStep i arg5 arg10 arg19.sem (f8 g) k) a
  rw [h, show 32 - b = a by omega] at this
  exact this

/-- What follows group 7's wait 13. -/
theorem tail_eq :
    (k0_part721 (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1).bind (fun _ => (k0_part722 i arg2 harg2 arg3 harg3 arg4 harg4 arg5 harg5 arg6 harg6 arg7 harg7 arg8 harg8 arg9 harg9 arg10 harg10 arg11 arg12 arg13 arg14 arg15 arg16 arg17 arg18 arg19 v23723_r0 v23723_r1).bind fun _ => (k0_part723 i arg2 harg2 arg3 harg3 arg4 harg4 arg5 harg5 arg6 harg6 arg7 harg7 arg8 harg8 arg9 harg9 arg10 harg10 arg11 arg12 arg13 arg14 arg15 arg16 arg17 arg18 arg19 v23723_r0 v23723_r1).bind fun _ =>
      (k0_part724 i arg2 harg2 arg3 harg3 arg4 harg4 arg5 harg5 arg6 harg6 arg7 harg7 arg8 harg8 arg9 harg9 arg10 harg10 arg11 arg12 arg13 arg14 arg15 arg16 arg17 arg18 arg19 v23723_r0 v23723_r1).bind fun _ => (k0_part725 i arg2 harg2 arg3 harg3 arg4 harg4 arg5 harg5 arg6 harg6 arg7 harg7 arg8 harg8 arg9 harg9 arg10 harg10 arg11 arg12 arg13 arg14 arg15 arg16 arg17 arg18 arg19 v23723_r0 v23723_r1 (Scalar.addi (Scalar.muli (BitVec.ofNat 32 (i 1).val) 2#32) (BitVec.ofNat 32 (i 0).val))).bind fun _ => (k0_part726 i arg2 harg2 arg3 harg3 arg4 harg4 arg5 harg5 arg6 harg6 arg7 harg7 arg8 harg8 arg9 harg9 arg10 harg10 arg11 arg12 arg13 arg14 arg15 arg16 arg17 arg18 arg19 v23723_r0 v23723_r1).bind fun _ =>
      (k0_part727 i arg2 harg2 arg3 harg3 arg4 harg4 arg5 harg5 arg6 harg6 arg7 harg7 arg8 harg8 arg9 harg9 arg10 harg10 arg11 arg12 arg13 arg14 arg15 arg16 arg17 arg18 arg19 v23723_r0 v23723_r1).bind fun _ => outWait i arg5 arg10 arg19.sem 5 <| outWait i arg5 arg10 arg19.sem 6 <|
      outWait i arg5 arg10 arg19.sem 7 <| .ret ⟨⟩) =
    (rounds (waitStep i arg2 arg10 arg18.sem 7) 32 19 <| outStep i arg5 arg10 arg19.sem 7 <|
      rounds (outWait i arg5 arg10 arg19.sem) 8 8 <| .ret ⟨⟩) := rfl

/-- The printed body is the rolled one. -/
theorem printed_eq : cc0__sc_gather (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1 =
    body i arg2 arg3 arg4 arg5 arg6 arg7 arg8 arg9 arg10 harg6 harg7
      (gsems arg11 arg12 arg13 arg14 arg15 arg16 arg17 arg18) arg19.sem v23723_r0.sem v23723_r1.sem := by
  unfold cc0__sc_gather k0_part740
  simp only [bind_spell, bind_bind]
  simp only [part728_eq, part729_eq, part730_eq, part731_eq, part732_eq, part733_eq, part734_eq, part735_eq,
    part736_eq, part737_eq, part738_eq, part739_eq]
  unfold body
  rw [show ∀ k : PG F i, rounds (fill i arg2 arg8 arg9 arg10 (gsems arg11 arg12 arg13 arg14 arg15 arg16 arg17 arg18)) 8 8 k =
    (fill i arg2 arg8 arg9 arg10 (gsems arg11 arg12 arg13 arg14 arg15 arg16 arg17 arg18) 0 <| fill i arg2 arg8 arg9 arg10 (gsems arg11 arg12 arg13 arg14 arg15 arg16 arg17 arg18) 1 <| fill i arg2 arg8 arg9 arg10 (gsems arg11 arg12 arg13 arg14 arg15 arg16 arg17 arg18) 2 <|
     fill i arg2 arg8 arg9 arg10 (gsems arg11 arg12 arg13 arg14 arg15 arg16 arg17 arg18) 3 <| fill i arg2 arg8 arg9 arg10 (gsems arg11 arg12 arg13 arg14 arg15 arg16 arg17 arg18) 4 <| fill i arg2 arg8 arg9 arg10 (gsems arg11 arg12 arg13 arg14 arg15 arg16 arg17 arg18) 5 <|
     fill i arg2 arg8 arg9 arg10 (gsems arg11 arg12 arg13 arg14 arg15 arg16 arg17 arg18) 6 <| fill i arg2 arg8 arg9 arg10 (gsems arg11 arg12 arg13 arg14 arg15 arg16 arg17 arg18) 7 k) from fun _ => rfl,
    show ∀ k : PG F i, rounds (drain i arg2 arg5 arg10 (gsems arg11 arg12 arg13 arg14 arg15 arg16 arg17 arg18) arg19.sem) 8 8 k =
    (drain i arg2 arg5 arg10 (gsems arg11 arg12 arg13 arg14 arg15 arg16 arg17 arg18) arg19.sem 0 <| drain i arg2 arg5 arg10 (gsems arg11 arg12 arg13 arg14 arg15 arg16 arg17 arg18) arg19.sem 1 <| drain i arg2 arg5 arg10 (gsems arg11 arg12 arg13 arg14 arg15 arg16 arg17 arg18) arg19.sem 2 <|
     drain i arg2 arg5 arg10 (gsems arg11 arg12 arg13 arg14 arg15 arg16 arg17 arg18) arg19.sem 3 <| drain i arg2 arg5 arg10 (gsems arg11 arg12 arg13 arg14 arg15 arg16 arg17 arg18) arg19.sem 4 <| drain i arg2 arg5 arg10 (gsems arg11 arg12 arg13 arg14 arg15 arg16 arg17 arg18) arg19.sem 5 <|
     drain i arg2 arg5 arg10 (gsems arg11 arg12 arg13 arg14 arg15 arg16 arg17 arg18) arg19.sem 6 <| drain i arg2 arg5 arg10 (gsems arg11 arg12 arg13 arg14 arg15 arg16 arg17 arg18) arg19.sem 7 k) from fun _ => rfl,
    fill_cut i arg2 arg8 arg9 arg10 arg11 arg12 arg13 arg14 arg15 arg16 arg17 arg18 0 163 93 rfl, fill_cut i arg2 arg8 arg9 arg10 arg11 arg12 arg13 arg14 arg15 arg16 arg17 arg18 1 91 165 rfl, fill_cut₂ i arg2 arg8 arg9 arg10 arg11 arg12 arg13 arg14 arg15 arg16 arg17 arg18 2 18 212 230 (by decide) rfl,
    fill_cut i arg2 arg8 arg9 arg10 arg11 arg12 arg13 arg14 arg15 arg16 arg17 arg18 3 157 99 rfl, fill_cut i arg2 arg8 arg9 arg10 arg11 arg12 arg13 arg14 arg15 arg16 arg17 arg18 4 85 171 rfl, fill_cut₂ i arg2 arg8 arg9 arg10 arg11 arg12 arg13 arg14 arg15 arg16 arg17 arg18 5 13 211 224 (by decide) rfl,
    fill_cut i arg2 arg8 arg9 arg10 arg11 arg12 arg13 arg14 arg15 arg16 arg17 arg18 6 152 104 rfl, fill_cut i arg2 arg8 arg9 arg10 arg11 arg12 arg13 arg14 arg15 arg16 arg17 arg18 7 79 177 rfl, drain_cut i arg2 arg5 arg10 arg11 arg12 arg13 arg14 arg15 arg16 arg17 arg18 arg19 0 8 24 rfl, drain_cut i arg2 arg5 arg10 arg11 arg12 arg13 arg14 arg15 arg16 arg17 arg18 arg19 7 13 19 rfl]
  rw [show (rounds (waitStep i arg2 arg10 ((gsems arg11 arg12 arg13 arg14 arg15 arg16 arg17 arg18) (f8 7)) (f8 7)) 32 19 <| outStep i arg5 arg10 arg19.sem (f8 7) <|
    rounds (outWait i arg5 arg10 arg19.sem) 8 8 <| (.ret ⟨⟩ : PG F i)) = _ from
    (tail_eq (F := F) i arg2 harg2 arg3 harg3 arg4 harg4 arg5 harg5 arg6 harg6 arg7 harg7 arg8 harg8 arg9 harg9 arg10 harg10 arg11 arg12 arg13 arg14 arg15 arg16 arg17 arg18 arg19 v23723_r0 v23723_r1).symm]
  rfl

end Cert.KernelIdeal.Rolled
-- ==== Proof.Tile.Run.lean ====
/- The tile's whole run: from its shares of the table and the lists and its part of the result, to the result's part written. -/
module

public import proofs.«01_k».proof.Proof.Tile.Gathers
public import proofs.«01_k».proof.Proof.Tile.Printed

@[expose] public section

noncomputable section

namespace Cert.Proof.Gather

open Cert.KernelIdeal Cert.KernelIdeal.Gen Cert.KernelIdeal.Rolled Cert.Streams
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords)

/-! ## The tile's own semaphores and buffers -/

/-- The gathers' semaphores. -/
def tSem : Fin 8 → DmaSem sig :=
  gsems cc0_scratch5 cc0_scratch6 cc0_scratch7 cc0_scratch8 cc0_scratch9 cc0_scratch10 cc0_scratch11 cc0_scratch12

/-- The tile's semaphores: the two fetches', the copies', the gathers'. -/
def ownSem : Fin 3 ⊕ Fin 8 → DmaSem sig
  | .inl n => ![cc0_scoped0.sem, cc0_scoped1.sem, cc0_scratch13.sem] n
  | .inr g => tSem g

theorem ownSem_injective : Function.Injective ownSem := by
  have h : ∀ a b : Fin 3 ⊕ Fin 8, ownSem a = ownSem b → a = b := by decide
  exact fun a b => h a b

theorem ownSem_scoped (a : Fin 3 ⊕ Fin 8) : (SemLoc.dma (ownSem a) : SemLoc sig).isScoped .scVector = true := by
  have h : ∀ a : Fin 3 ⊕ Fin 8, (SemLoc.dma (ownSem a) : SemLoc sig).isScoped .scVector = true := by decide
  exact h a

/-- The tile's cells of them. -/
def ownSemEmb : Fin 3 ⊕ Fin 8 ↪ GSem nD τ sig :=
  ⟨fun a => (thr d L, .dma (ownSem a)), fun a b h => ownSem_injective (SemLoc.dma.inj (Prod.mk.inj h).2)⟩

theorem ownSems_V :
    (ownSems0 (thr d L) : sProp 𝕄)
      = iprop(iprop(iprop(semVal (thr d L, SemLoc.dma cc0_scoped0.sem) 0 ∗ semVal (thr d L, SemLoc.dma cc0_scoped1.sem) 0
            ∗ semVal (thr d L, SemLoc.dma cc0_scratch13.sem) 0)
          ∗ bigSep Finset.univ fun g : Fin 8 => semVal (thr d L, SemLoc.dma (tSem g)) 0)
        ∗ bigSep (ownCells (thr d L) \ Finset.univ.map (ownSemEmb d L)) fun g => semVal g 0) := by
  have hsub : Finset.univ.map (ownSemEmb d L) ⊆ ownCells (thr d L) := by
    intro g hg
    obtain ⟨a, -, rfl⟩ := Finset.mem_map.mp hg
    exact mem_ownCells.mpr ⟨rfl, ownSem_scoped a⟩
  unfold SparseCore.Cfg.ownSems0
  rw [bigSep_sdiff_split hsub, bigSep_map, bigSep_univ_sum, bigSep_univ_eq_bigSepL [0, 1, 2] (by decide) (by decide)]
  rfl

/-- The tile's buffers. -/
def ownBuf : Fin 5 → Ref sig .scVector := ![cc0_scratch0, cc0_scratch1, cc0_scratch2, cc0_scratch3, cc0_scratch4]

theorem ownBuf_injective : Function.Injective ownBuf := by
  have h : ∀ a b : Fin 5, ownBuf a = ownBuf b → a = b := by decide
  exact fun a b => h a b

def ownBufEmb : Fin 5 ↪ DevRef τ sig :=
  ⟨fun a => (Proc.scVector (cV L) (jV L)).devRef (ownBuf a), fun _ _ h => ownBuf_injective (Proc.devRef_injective _ h)⟩

theorem ownBufs_V :
    (ownBufs (thr d L) : sProp 𝕄)
      = iprop(iprop((∃ f, (aM).view.loc (thr d L) ↦{fullShare} f) ∗ (∃ f, (bM).view.loc (thr d L) ↦{fullShare} f)
          ∗ (∃ f, (pM).view.loc (thr d L) ↦{fullShare} f) ∗ (∃ f, (xM).view.loc (thr d L) ↦{fullShare} f)
          ∗ (∃ f, (gM).view.loc (thr d L) ↦{fullShare} f))
        ∗ bigSep (ownRefs (τ := τ) (.scVector (cV L) (jV L)) \ Finset.univ.map (ownBufEmb L)) fun b => iprop(∃ f, ((d, b) : Loc nD τ sig) ↦{fullShare} f)) := by
  have hsub : Finset.univ.map (ownBufEmb L) ⊆ ownRefs (τ := τ) (.scVector (cV L) (jV L)) := by
    intro g hg
    obtain ⟨a, -, rfl⟩ := Finset.mem_map.mp hg
    have h : ∀ a : Fin 5, (ownBufEmb L a) ∈ ownRefs (τ := τ) (.scVector (cV L) (jV L)) := by
      intro a
      fin_cases a <;> exact SparseCore.Cfg.mem_ownRefs_of_owner rfl
    exact h a
  unfold SparseCore.Cfg.ownBufs
  rw [bigSep_sdiff_split hsub, bigSep_map, bigSep_univ_eq_bigSepL [0, 1, 2, 3, 4] (by decide) (by decide)]
  rfl

/-! ## The run -/

variable [FloatOps F] (O : CellTallies nD τ sig (HIx 1)) (W : Waits sig (HIx 1))
  (T : S209715200.Idx → Elt F .f32) (R C : S16384.Idx → BitVec 32) (hr : InRange R C) (q : PosShare TreeShare)

/-- What the tile is lent: shares of the table and of the lists. -/
abbrev lent : sProp (MT nD τ sig (HIx 1) (Elt F) ℕ UU ℕ) :=
  iprop((tLoc d ↦{q} (T : Buf (Elt F) (tLoc d))) ∗ (rLoc d ↦{q} (R : Buf (Elt F) (rLoc d))) ∗ (cLoc d ↦{q} (C : Buf (Elt F) (cLoc d))))

/-- The tile's part of the result. -/
abbrev outPart (f : S8x128x8x128.Idx → Elt F .f32) : sProp (MT nD τ sig (HIx 1) (Elt F) ℕ UU ℕ) :=
  bigSep Finset.univ fun g : Fin 8 => iprop(oLoc d ↦[outSet L g]{fullShare} (f : Buf (Elt F) (oLoc d)))

theorem xAll (f : S8x4x8x128.Idx → BitVec 32) :
    ((xM).view.loc (thr d L) ↦{fullShare} (f : Buf (Elt F) ((xM).view.loc (thr d L))) : sProp 𝕄) = bigSep Finset.univ fun g => xBlk d L g f := by
  rw [← pointsTo_biUnion Finset.univ _ blk_disjoint, blk_cover]
theorem gAll (f : S8x4x8x128.Idx → Elt F .f32) :
    ((gM).view.loc (thr d L) ↦{fullShare} (f : Buf (Elt F) ((gM).view.loc (thr d L))) : sProp 𝕄) = bigSep Finset.univ fun g => gBlk d L g f := by
  rw [← pointsTo_biUnion Finset.univ _ blk_disjoint, blk_cover]
theorem tAll : (tPart d L T q : sProp 𝕄) = bigSep Finset.univ fun g => tPart d L T (qg q g) := pointsTo_piecesOf _ _ (by decide) q

include hr in
/-- The tile's program, from its start to its end. -/
theorem body_run (h6 : (aM).IsWhole) (h7 : (bM).IsWhole) (fo : S8x128x8x128.Idx → Elt F .f32) :
    iprop(lent d T R C q ∗ outPart d L fo
        ∗ iprop((∃ f, (aM).view.loc (thr d L) ↦{fullShare} f) ∗ (∃ f, (bM).view.loc (thr d L) ↦{fullShare} f)
          ∗ (∃ f, (pM).view.loc (thr d L) ↦{fullShare} f) ∗ (∃ f, (xM).view.loc (thr d L) ↦{fullShare} f)
          ∗ (∃ f, (gM).view.loc (thr d L) ↦{fullShare} f))
        ∗ iprop(iprop(semVal (thr d L, SemLoc.dma cc0_scoped0.sem) 0 ∗ semVal (thr d L, SemLoc.dma cc0_scoped1.sem) 0
            ∗ semVal (thr d L, SemLoc.dma cc0_scratch13.sem) 0)
          ∗ bigSep Finset.univ fun g : Fin 8 => semVal (thr d L, SemLoc.dma (tSem g)) 0)
        ∗ owed d L O W)
      ⊢ wpT d L (fun _ => iprop(lent d T R C q ∗ outPart d L (result T R C)
        ∗ iprop((∃ f, (aM).view.loc (thr d L) ↦{fullShare} f) ∗ (∃ f, (bM).view.loc (thr d L) ↦{fullShare} f)
          ∗ (∃ f, (pM).view.loc (thr d L) ↦{fullShare} f) ∗ (∃ f, (xM).view.loc (thr d L) ↦{fullShare} f)
          ∗ (∃ f, (gM).view.loc (thr d L) ↦{fullShare} f))
        ∗ iprop(iprop(semVal (thr d L, SemLoc.dma cc0_scoped0.sem) 0 ∗ semVal (thr d L, SemLoc.dma cc0_scoped1.sem) 0
            ∗ semVal (thr d L, SemLoc.dma cc0_scratch13.sem) 0)
          ∗ bigSep Finset.univ fun g : Fin 8 => semVal (thr d L, SemLoc.dma (tSem g)) 0)
        ∗ owed d L O W))
        (body L tM rM cM oM aM bM pM xM gM h6 h7 tSem cc0_scratch13.sem cc0_scoped0.sem cc0_scoped1.sem) := by
  unfold body
  iintro ⟨⟨Ht, Hr, Hc⟩, Ho, ⟨⟨%fa, Ha⟩, ⟨%fb, Hb⟩, ⟨%fp, Hp⟩, ⟨%fx, Hx⟩, ⟨%fg, Hg⟩⟩, ⟨⟨Hv0, Hv1, Hvo⟩, Hvs⟩, HO⟩
  iapply (fetch_run d L O W _ rM aM h6 cc0_scoped0.sem (by decide) q (R : Buf (Elt F) ((rM).view.loc (thr d L))) fa _) $$ [Hr Ha Hv0 HO]
  · isplitl [Hr]; · iexact Hr
    isplitl [Ha]; · iexact Ha
    isplitl [Hv0] <;> iassumption
  iintro ⟨Hr, Ha, Hv0, HO⟩
  iapply (fetch_run d L O W _ cM bM h7 cc0_scoped1.sem (by decide) q (C : Buf (Elt F) ((cM).view.loc (thr d L))) fb _) $$ [Hc Hb Hv1 HO]
  · isplitl [Hc]; · iexact Hc
    isplitl [Hb]; · iexact Hb
    isplitl [Hv1] <;> iassumption
  iintro ⟨Hc, Hb, Hv1, HO⟩
  ihave Ha := (Entails.of_eq (show ((aM).view.loc (thr d L) ↦{fullShare} ((aM).view.write (Elt F) fa ((listPart L rM).view.read (Elt F) R) Finset.univ) : sProp 𝕄)
    = (aM).view.loc (thr d L) ↦{fullShare} (partOf R L : Buf (Elt F) ((aM).view.loc (thr d L))) by rw [read_r, View.write_whole_univ])) $$ Ha
  ihave Hb := (Entails.of_eq (show ((bM).view.loc (thr d L) ↦{fullShare} ((bM).view.write (Elt F) fb ((listPart L cM).view.read (Elt F) C) Finset.univ) : sProp 𝕄)
    = (bM).view.loc (thr d L) ↦{fullShare} (partOf C L : Buf (Elt F) ((bM).view.loc (thr d L))) by rw [read_c, View.write_whole_univ])) $$ Hb
  iapply (base_run d L _ R C fp _) $$ [Ha Hb Hp]
  · isplitl [Ha Hb]
    · isplitl [Ha] <;> iassumption
    iexact Hp
  iintro ⟨⟨Ha, Hb⟩, Hp⟩
  -- the groups' lists filled and their gathers started
  ihave Hx := (Entails.of_eq (xAll d L fx)) $$ Hx
  ihave Hg := (Entails.of_eq (gAll d L fg)) $$ Hg
  ihave Ht := (Entails.of_eq (tAll d L T q)) $$ Ht
  iapply (loop_run (wpT d L _) (fill L tM pM xM gM tSem) (fun _ => pAll d L R C)
    (fun g => iprop(xBlk d L g fx ∗ gBlk d L g fg ∗ tPart d L T (qg q g) ∗ semVal (thr d L, SemLoc.dma (tSem g)) 0))
    (fun g => gBatch d L T R C hr q fg g (tSem g) 4096 0) (fun g k => fill_step d L _ T R C hr q tSem fx fg g k) _) $$ [Hp Hx Hg Ht Hvs]
  · isplitl [Hp]; · iexact Hp
    rw [bigSep_sep', bigSep_sep', bigSep_sep']
    isplitl [Hx]; · iexact Hx
    isplitl [Hg]; · iexact Hg
    isplitl [Ht]; · iexact Ht
    iexact Hvs
  iintro ⟨Hp, HG⟩
  -- the groups' gathers waited for and their blocks sent
  imod (Transfers.batch_alloc' countersEmb (thr d L) (none : HIx 1) unitO (sent d L T R C) (sm := .dma cc0_scratch13.sem) (E := Set.univ)) $$ Hvo with HB
  iapply (loop_run (wpT d L _) (drain L tM oM gM tSem cc0_scratch13.sem) (fun j => iprop(oBatch d L T R C cc0_scratch13.sem j 0 ∗ owed d L O W))
    (fun g => iprop(gBatch d L T R C hr q fg g (tSem g) 4096 0 ∗ oPart d L g fo))
    (fun g => iprop(iprop(tPart d L T (qg q g) ∗ xBlk d L g (lists R C L)) ∗ semVal (thr d L, SemLoc.dma (tSem g)) 0))
    (fun g k => drain_step d L O W _ T R C hr q tSem cc0_scratch13.sem fg fo g k) _) $$ [HB HO HG Ho]
  · isplitl [HB HO]
    · isplitl [HB] <;> iassumption
    rw [bigSep_sep']
    isplitl [HG]; · iexact HG
    iexact Ho
  iintro ⟨⟨HB, HO⟩, HD⟩
  -- the last waits
  iapply (outWait_run d L O W _ T R C cc0_scratch13.sem _) $$ [HB HO]
  · isplitl [HB] <;> iassumption
  iintro ⟨HB, HO⟩
  imod (Transfers.batch_collect' countersEmb (thr d L) (N := unitO) (by decide)) $$ HB with ⟨HS, Hvo⟩
  ihave HS := (Entails.of_eq (show bigSep Finset.univ (sent d L T R C) = (iprop((bigSep Finset.univ fun g => oPart d L g (result T R C))
    ∗ bigSep Finset.univ fun g => gBlk d L g (brought T R C L)) : sProp 𝕄) from bigSep_sep' ..)) $$ HS
  icases HS with ⟨Ho, Hg⟩
  ihave HD := (Entails.of_eq (bigSep_sep' ..)) $$ HD
  icases HD with ⟨HD, Hvs⟩
  ihave HD := (Entails.of_eq (bigSep_sep' ..)) $$ HD
  icases HD with ⟨Ht, Hx⟩
  ihave Hx := (Entails.of_eq (xAll d L (lists R C L)).symm) $$ Hx
  ihave Hg := (Entails.of_eq (gAll d L (brought T R C L)).symm) $$ Hg
  ihave Ht := (Entails.of_eq (tAll d L T q).symm) $$ Ht
  rw [wp_ret]
  imodintro
  isplitl [Ht Hr Hc]
  · isplitl [Ht]; · iexact Ht
    isplitl [Hr]; · iexact Hr
    iexact Hc
  isplitl [Ho]; · iexact Ho
  isplitl [Ha Hb Hp Hx Hg]
  · isplitl [Ha]; · iexists _; iexact Ha
    isplitl [Hb]; · iexists _; iexact Hb
    isplitl [Hp]; · iexists _; iexact Hp
    isplitl [Hx]; · iexists _; iexact Hx
    iexists _; iexact Hg
  isplitl [Hv0 Hv1 Hvo Hvs]
  · isplitl [Hv0 Hv1 Hvo]
    · isplitl [Hv0]; · iexact Hv0
      isplitl [Hv1]; · iexact Hv1
      iexact Hvo
    iexact Hvs
  iexact HO

end Cert.Proof.Gather
-- ==== Proof.Tile.Launch.lean ====
/- The launch: every tile's pieces, how the arrays split into them and join again, and the call's dispatch. -/
module

public import proofs.«01_k».proof.Proof.Tile.Run

@[expose] public section

noncomputable section

namespace Cert.Proof.Gather

open Cert.KernelIdeal Cert.KernelIdeal.Gen Cert.KernelIdeal.Rolled Cert.Streams
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tiles -/

/-- The tile of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The tile's share of what every tile reads: a sixteenth of a half. -/
def tileShare (c : Fin 2) (s : Fin 16) : PosShare TreeShare := pieceOf (pieceOf fullShare 2 (by decide) c) 16 (by decide) s

/-- A whole array read by every tile is every tile's share of it. -/
theorem pointsTo_tiles {ℓ : Loc nD τ sig} (I : Finset (Idx ℓ)) (f : Buf (Elt F) ℓ) :
    (ℓ ↦[I]{fullShare} f : sProp 𝕄) = bigSep Finset.univ fun c : Fin 2 => bigSep Finset.univ fun s : Fin 16 => ℓ ↦[I]{tileShare c s} f := by
  rw [pointsTo_piecesOf I f (show 0 < 2 by decide) fullShare]
  exact bigSep_congr fun c _ => pointsTo_piecesOf I f (show 0 < 16 by decide) _

/-- A tile's part of the result, by its core, its subcore and the group. -/
abbrev tileOut (k : (Fin 2 × Fin 16) × Fin 8) : Finset S8x128x8x128.Idx := outSet (coordsV k.1.1 k.1.2) k.2

theorem mem_tileOut (k : (Fin 2 × Fin 16) × Fin 8) (x : S8x128x8x128.Idx) :
    x ∈ tileOut k ↔ (x 0).val = k.2.val ∧ (x 1).val / 4 = k.1.2.val * 2 + k.1.1.val := mem_outSet

theorem tileOut_disjoint : ∀ i ∈ (Finset.univ : Finset ((Fin 2 × Fin 16) × Fin 8)), ∀ j ∈ (Finset.univ : Finset ((Fin 2 × Fin 16) × Fin 8)), i ≠ j →
    Disjoint (tileOut i) (tileOut j) := by
  rintro ⟨⟨c, s⟩, g⟩ - ⟨⟨c', s'⟩, g'⟩ - hne
  rw [Finset.disjoint_left]
  intro x hx hx'
  rw [mem_tileOut] at hx hx'
  apply hne
  have h1 := c.isLt
  have h2 := c'.isLt
  simp only at hx hx'
  rw [Prod.mk.injEq, Prod.mk.injEq]
  refine ⟨⟨Fin.ext ?_, Fin.ext ?_⟩, Fin.ext ?_⟩ <;> omega

theorem tileOut_cover : (Finset.univ : Finset ((Fin 2 × Fin 16) × Fin 8)).biUnion tileOut = Finset.univ := by
  refine Finset.eq_univ_iff_forall.mpr fun x => Finset.mem_biUnion.mpr ?_
  have h0 : (x 0).val < 8 := (x 0).isLt
  have h1 : (x 1).val < 128 := (x 1).isLt
  refine ⟨((⟨(x 1).val / 4 % 2, by omega⟩, ⟨(x 1).val / 8, by omega⟩), ⟨(x 0).val, h0⟩), Finset.mem_univ _, ?_⟩
  rw [mem_tileOut]
  exact ⟨rfl, by show (x 1).val / 4 = (x 1).val / 8 * 2 + (x 1).val / 4 % 2; omega⟩

/-- The result whole is every tile's part of it. -/
theorem out_tiles (d : Dev nD) (f : S8x128x8x128.Idx → Elt F .f32) :
    (oLoc d ↦{fullShare} (f : Buf (Elt F) (oLoc d)) : sProp 𝕄)
      = bigSep Finset.univ fun c : Fin 2 => bigSep Finset.univ fun s : Fin 16 => outPart d (coordsV c s) f := by
  have h := pointsTo_biUnion (Ix := HIx 1) (Name := ℕ) (U := UU) (Lvl := ℕ) (Val := Elt F) (q := fullShare) (f := (f : Buf (Elt F) (oLoc d)))
    Finset.univ (ℓ := oLoc d) tileOut tileOut_disjoint
  rw [tileOut_cover] at h
  refine h.trans ?_
  rw [bigSep_univ_prod, bigSep_univ_prod]

/-! ## What the handshakes carry -/

/-- What a tile is handed: its shares of the table and of the lists, its part of the result. -/
abbrev handed (d : Dev nD) (T : S209715200.Idx → Elt F .f32) (R C : S16384.Idx → BitVec 32) (f : S8x128x8x128.Idx → Elt F .f32) (c : Fin 2) (s : Fin 16) :
    sProp (MT nD τ sig (HIx 1) (Elt F) ℕ UU ℕ) :=
  iprop(lent d T R C (tileShare c s) ∗ outPart d (coordsV c s) f)

/-- The arrays whole. -/
abbrev whole4 (d : Dev nD) (T : S209715200.Idx → Elt F .f32) (R C : S16384.Idx → BitVec 32) (f : S8x128x8x128.Idx → Elt F .f32) :
    sProp (MT nD τ sig (HIx 1) (Elt F) ℕ UU ℕ) :=
  iprop(lent d T R C fullShare ∗ oLoc d ↦{fullShare} (f : Buf (Elt F) (oLoc d)))

/-- They are what every tile is handed. -/
theorem whole4_tiles (d : Dev nD) (T : S209715200.Idx → Elt F .f32) (R C : S16384.Idx → BitVec 32) (f : S8x128x8x128.Idx → Elt F .f32) :
    (whole4 d T R C f : sProp 𝕄) = bigSep Finset.univ fun c : Fin 2 => bigSep Finset.univ fun s : Fin 16 => handed d T R C f c s := by
  unfold whole4 lent handed
  rw [out_tiles, pointsTo_tiles (ℓ := tLoc d), pointsTo_tiles (ℓ := rLoc d), pointsTo_tiles (ℓ := cLoc d),
    ← bigSep_sep', ← bigSep_sep', ← bigSep_sep']
  refine bigSep_congr fun c _ => ?_
  rw [← bigSep_sep', ← bigSep_sep', ← bigSep_sep']

variable [FloatOps F] (T : Dev nD → S209715200.Idx → Elt F .f32) (R C : Dev nD → S16384.Idx → BitVec 32) (fo : Dev nD → S8x128x8x128.Idx → Elt F .f32)

/-- The call takes every tile's pieces and brings them back, the result's written. -/
def P : (K (F := F)).Pay (nD := nD) (Val := Elt F) (Name := ℕ) (U := UU) where
  st := fun q d c => match q with
    | 0 => bigSep Finset.univ fun s : Fin 16 => handed d (T d) (R d) (C d) (fo d) c s
  dn := fun q d c => match q with
    | 0 => bigSep Finset.univ fun s : Fin 16 => handed d (T d) (R d) (C d) (result (T d) (R d) (C d)) c s
  go := fun q d c i => match q with | 0 => handed d (T d) (R d) (C d) (fo d) c i
  td := fun q d c i => match q with | 0 => handed d (T d) (R d) (C d) (result (T d) (R d) (C d)) c i
  x := fun _ _ => iprop(emp)

theorem handed_storable (d : Dev nD) (T : S209715200.Idx → Elt F .f32) (R C : S16384.Idx → BitVec 32) (f : S8x128x8x128.Idx → Elt F .f32) (c : Fin 2) (s : Fin 16) :
    BI.Storable (upEmb : UEmb _ 𝕄) (handed d T R C f c s) := by
  unfold handed lent outPart
  infer_instance

instance P_storable : (P (F := F) T R C fo).IsStorable where
  st q d c := match q with
    | 0 => by
      have := fun s => handed_storable d (T d) (R d) (C d) (fo d) c s
      exact (inferInstance : BI.Storable (upEmb : UEmb _ 𝕄) (bigSep Finset.univ fun s : Fin 16 => handed d (T d) (R d) (C d) (fo d) c s))
  dn q d c := match q with
    | 0 => by
      have := fun s => handed_storable d (T d) (R d) (C d) (result (T d) (R d) (C d)) c s
      exact (inferInstance : BI.Storable (upEmb : UEmb _ 𝕄) (bigSep Finset.univ fun s : Fin 16 => handed d (T d) (R d) (C d) (result (T d) (R d) (C d)) c s))
  go q d c i := match q with | 0 => handed_storable d (T d) (R d) (C d) (fo d) c i
  td q d c i := match q with | 0 => handed_storable d (T d) (R d) (C d) (result (T d) (R d) (C d)) c i

/-! ## The obligation -/

section Tile

/-- The tile's program, as it is printed, at the call's buffers and semaphores. -/
@[irreducible] def task (L : grid0.Coords) : Prog (TpuEff nD τ sig (Elt F) Λ₀ (.scVector (cV L) (jV L))) PUnit :=
  cc0__sc_gather L tM (Memref.isWhole_whole _) rM (Memref.isWhole_whole _) cM (Memref.isWhole_whole _) oM (Memref.isWhole_whole _)
            aM (Memref.isWhole_whole _) bM (Memref.isWhole_whole _) pM (Memref.isWhole_whole _) xM (Memref.isWhole_whole _) gM (Memref.isWhole_whole _)
            cc0_scratch5 cc0_scratch6 cc0_scratch7 cc0_scratch8 cc0_scratch9 cc0_scratch10 cc0_scratch11 cc0_scratch12 cc0_scratch13 cc0_scoped0 cc0_scoped1

variable (d : Dev nD)

/-- The tile's program, as it is printed, from what it is handed. -/
theorem tile_body (hF : (K (F := F)).Facts) (hr : InRange (R d) (C d)) (c : Fin 2) (s : Fin 16) (L : grid0.Coords) (hL : L = coordsV c s)
    (O : CellTallies nD τ sig (HIx 1)) (W : Waits sig (HIx 1)) (hO : ∀ g, O g none = 0)
    (X : SemLoc sig × HIx 1 → Prop) :
    iprop(levAts (K (F := F)).L (K (F := F)).lev ∗ emp ∗ handed d (T d) (R d) (C d) (fo d) c s
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (task L)
          fun _ => iprop(handed d (T d) (R d) (C d) (result (T d) (R d) (C d)) c s
            ∗ scopedBufs (V d (cV L) (jV L)) ∗ scopedSems0 (V d (cV L) (jV L))
            ∗ ∃ W', ⌜∀ p ∈ W', p ∈ W ∨ p.2 = none ∨ X p⌝ ∗ owes (V d (cV L) (jV L)) O W') := by
  rw [task, printed_eq, (K (F := F)).scopedBufs_V hF d (cV L) (jV L), SparseCore.Cfg.scopedSems0_V (Val := Elt F) d (cV L) (jV L),
    show (ownSems0 (V d (cV L) (jV L)) : sProp 𝕄) = _ from ownSems_V d L, show (ownBufs (V d (cV L) (jV L)) : sProp 𝕄) = _ from ownBufs_V d L]
  subst hL
  iintro ⟨#Hlv, -, ⟨Hl, Ho⟩, ⟨Hbs, Hbr⟩, ⟨Hss, Hsr⟩, HO⟩
  ihave Hmw := (show levAts (K (F := F)).L (K (F := F)).lev ⊢ Transfers.MayWaits (thr d (coordsV c s)) (none : HIx 1) O from
    (K (F := F)).mayWaits_none (thr := thr d (coordsV c s)) hO) $$ Hlv
  iapply (wp_wand_r frame _ _)
  isplitl [Hl Ho Hbs Hss HO Hmw]
  · iapply (body_run d (coordsV c s) O W (T d) (R d) (C d) hr (tileShare c s) (Memref.isWhole_whole _) (Memref.isWhole_whole _) (fo d))
    isplitl [Hl]; · iexact Hl
    isplitl [Ho]; · iexact Ho
    isplitl [Hbs]; · iexact Hbs
    isplitl [Hss]; · iexact Hss
    unfold owed
    isplitl [Hmw]; · iexact Hmw
    iexists W
    isplitr
    · ipureintro; exact fun p hp => .inl hp
    iexact HO
  iintro %_ ⟨Hl, Ho, Hbs, Hss, HO⟩
  ihave HO := (show owed d (coordsV c s) O W ⊢ iprop(∃ W', ⌜∀ p ∈ W', p ∈ W ∨ p.2 = none⌝ ∗ owes (thr d (coordsV c s)) O W') from sep_elim_right) $$ HO
  icases HO with ⟨%W', %hW', HO⟩
  isplitl [Hl Ho]
  · isplitl [Hl]; · iexact Hl
    iexact Ho
  isplitl [Hbs Hbr]
  · isplitl [Hbs]; · iexact Hbs
    iexact Hbr
  isplitl [Hss Hsr]
  · isplitl [Hss]; · iexact Hss
    iexact Hsr
  iexists W'; isplitr
  · ipureintro; exact fun p hp => (hW' p hp).imp_right Or.inl
  iexact HO

end Tile

theorem defs₀_vector (c : Fin τ.nSC) (s : Fin τ.nSub) :
    defs₀ (F := F) (.scVector c s) 0 ()
      = SparseCore.onTile hcore0 hsub0 (fun c s => task (coordsV c s)) ⟨⟩ c s := by
  simp only [task]
  rfl

set_option maxRecDepth 16384 in
/-- Every tile runs its task. -/
theorem tileObl (hF : (K (F := F)).Facts) (hr : ∀ d, InRange (R d) (C d)) : (K (F := F)).TileObl (D (F := F)) 𝒱 (P T R C fo) v₀ 0 := by
  intro d c i O W hO _ _
  simp only [show (P T R C fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body T R C fo d hF (hr d) c i (coordsV ⟨_, hci.1⟩ ⟨_, hci.2⟩) rfl O W hO (fun p => SparseCore.Cfg.Blocks.blk 0 p.2)

/-- A core's pieces are its tiles'. -/
theorem vecSplit : (K (F := F)).VecSplit' (P T R C fo) 0 := by
  intro d c
  show (bigSep Finset.univ fun s : Fin 16 => handed d (T d) (R d) (C d) (fo d) c s) ⊢ |={Set.univ}=> iprop(
      (bigSep Finset.univ fun s : Fin 16 => handed d (T d) (R d) (C d) (fo d) c s)
      ∗ ((bigSep Finset.univ fun s : Fin 16 => handed d (T d) (R d) (C d) (result (T d) (R d) (C d)) c s)
          -∗ bigSep Finset.univ fun s : Fin 16 => handed d (T d) (R d) (C d) (result (T d) (R d) (C d)) c s))
  iintro H; imodintro
  isplitl [H]; · iexact H
  iintro H; iexact H

/-! ## The launch element of the ghost state -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P T R C fo).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun t : Thread nD τ => bigSep Finset.univ fun q : Fin 1 => (P T R C fo).x q t) = bigSep Finset.univ fun _ => iprop(emp) from
    bigSep_congr fun _ _ => bigSep_univ_of_subsingleton (0 : Fin 1), bigSep_none]
  iempintro

end Cert.Proof.Gather
-- ==== Proof.Tile.Main.lean ====
/- The whole program's run: the table and the lists built, the call, its result put in order. -/
module

public import proofs.«01_k».proof.Proof.Tile.Launch
public import Idealize.ShloMosaic.Lib.Pipeline.Frame

@[expose] public section

noncomputable section

namespace Cert.Proof.Gather

open Cert.KernelIdeal Cert.KernelIdeal.Gen Cert.KernelIdeal.Rolled Cert.Streams
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host's lines -/

/-- The operations before the call. -/
def opsIn : List (HloOp τ sig (Elt F)) :=
  [StableHlo.unary main_arg0 main_v0 ((transpose S200x64x16384 [1, 2, 0] · transposes_S16384x200x64_S200x64x16384_1_2_0) : (⟨S16384x200x64, .f32⟩ : BufTy).Contents (Elt F) → (⟨S200x64x16384, .f32⟩ : BufTy).Contents (Elt F)),
   StableHlo.reshape main_v0 main_v1 (rfl : (.f32 : EltTy) = .f32) shapeCasts_S200x64x16384_S200x8x8x128x128,
   StableHlo.unary main_v1 main_v2 ((transpose S200x8x128x8x128 [0, 1, 3, 2, 4] · transposes_S200x8x8x128x128_S200x8x128x8x128_0_1_3_2_4) : (⟨S200x8x8x128x128, .f32⟩ : BufTy).Contents (Elt F) → (⟨S200x8x128x8x128, .f32⟩ : BufTy).Contents (Elt F)),
   StableHlo.reshape main_v2 main_v3 (rfl : (.f32 : EltTy) = .f32) shapeCasts_S200x8x128x8x128_S209715200,
   StableHlo.unary main_arg1 main_v4 ((extractStridedSlice S1x16384 ![0, 0] · slices_S2x16384_S1x16384_0_0) : (⟨S2x16384, .i32⟩ : BufTy).Contents (Elt F) → (⟨S1x16384, .i32⟩ : BufTy).Contents (Elt F)),
   StableHlo.reshape main_v4 main_v5 (rfl : (.i32 : EltTy) = .i32) shapeCasts_S1x16384_S16384,
   StableHlo.unary main_arg1 main_v6 ((extractStridedSlice S1x16384 ![1, 0] · slices_S2x16384_S1x16384_1_0) : (⟨S2x16384, .i32⟩ : BufTy).Contents (Elt F) → (⟨S1x16384, .i32⟩ : BufTy).Contents (Elt F)),
   StableHlo.reshape main_v6 main_v7 (rfl : (.i32 : EltTy) = .i32) shapeCasts_S1x16384_S16384]

/-- The operations after it. -/
def opsOut : List (HloOp τ sig (Elt F)) :=
  [StableHlo.unary main_v8 main_v9 ((transpose S128x128x8x8 [1, 3, 0, 2] · transposes_S8x128x8x128_S128x128x8x8_1_3_0_2) : (⟨S8x128x8x128, .f32⟩ : BufTy).Contents (Elt F) → (⟨S128x128x8x8, .f32⟩ : BufTy).Contents (Elt F)),
   StableHlo.reshape main_v9 main_v10 (rfl : (.f32 : EltTy) = .f32) shapeCasts_S128x128x8x8_S16384x64]

/-- The program is the first line, the call and the second line. -/
theorem main_eq (d : Dev nD) :
    main (F := F) d = (StableHlo.seq opsIn >>= fun _ => (K (F := F)).run d 0 >>= fun _ => StableHlo.seq opsOut >>= fun _ => pure ⟨⟩) := by
  simp only [main, opsIn, opsOut, StableHlo.seq, bind_assoc, pure_bind]

theorem opsIn_sub : ∀ op ∈ opsIn (F := F), op.bufs ⊆ Pipeline.ucRefs τ sig := by
  simp only [opsIn, List.forall_mem_cons, List.not_mem_nil, false_imp_iff, implies_true, and_true]
  refine ⟨?_, ?_, ?_, ?_, ?_, ?_, ?_, ?_⟩ <;> refine Pipeline.sub_ucRefs _ ?_ <;> first | exact StableHlo.unary_bufs_sub .. | exact StableHlo.reshape_bufs_sub ..
theorem opsOut_sub : ∀ op ∈ opsOut (F := F), op.bufs ⊆ Pipeline.ucRefs τ sig := by
  simp only [opsOut, List.forall_mem_cons, List.not_mem_nil, false_imp_iff, implies_true, and_true]
  refine ⟨?_, ?_⟩ <;> refine Pipeline.sub_ucRefs _ ?_ <;> first | exact StableHlo.unary_bufs_sub .. | exact StableHlo.reshape_bufs_sub ..
theorem opsIn_fresh : ∀ op ∈ opsIn (F := F), op.fresh = ∅ := by
  simp only [opsIn, List.forall_mem_cons, List.not_mem_nil, false_imp_iff, implies_true, and_true]
  refine ⟨?_, ?_, ?_, ?_, ?_, ?_, ?_, ?_⟩ <;> rfl
theorem opsOut_fresh : ∀ op ∈ opsOut (F := F), op.fresh = ∅ := by
  simp only [opsOut, List.forall_mem_cons, List.not_mem_nil, false_imp_iff, implies_true, and_true]
  refine ⟨?_, ?_⟩ <;> rfl

/-! ## What the buffers hold -/

variable (m : (ℓ : Loc nD τ sig) → Buf (Elt F) ℓ) (ρ : Dev nD → PrngReg)

/-- The contents before the call. -/
def before (d : Dev nD) : Valuation τ sig (Elt F) := StableHlo.after opsIn fun b => m (d, b)
/-- The table, the lists, and what the result's array holds before the call. -/
def tab (d : Dev nD) : S209715200.Idx → Elt F .f32 := before m d (Proc.devRef .tc main_v3)
def rows (d : Dev nD) : S16384.Idx → BitVec 32 := before m d (Proc.devRef .tc main_v5)
def cols (d : Dev nD) : S16384.Idx → BitVec 32 := before m d (Proc.devRef .tc main_v7)
def old (d : Dev nD) : S8x128x8x128.Idx → Elt F .f32 := before m d (Proc.devRef .tc main_v8)
/-- The contents after it. -/
def called (d : Dev nD) : Valuation τ sig (Elt F) :=
  Function.update (before m d) (Proc.devRef .tc main_v8) (result (tab m d) (rows m d) (cols m d) : S8x128x8x128.Idx → Elt F .f32)
/-- The contents at the end. -/
def after (d : Dev nD) : Valuation τ sig (Elt F) := StableHlo.after opsOut (called m d)

/-- The arrays the call takes. -/
def callRefs : Finset (DevRef τ sig) := {Proc.devRef .tc main_v3, Proc.devRef .tc main_v5, Proc.devRef .tc main_v7, Proc.devRef .tc main_v8}
/-- The arguments and the result. -/
def endRefs : Finset (DevRef τ sig) := {Proc.devRef .tc main_arg0, Proc.devRef .tc main_arg1, Proc.devRef .tc main_v10}

theorem callRefs_sub : callRefs ⊆ Pipeline.ucRefs τ sig := by decide
theorem endRefs_sub : endRefs ⊆ Pipeline.ucRefs τ sig := by decide

theorem held_call (d : Dev nD) (W : Valuation τ sig (Elt F)) :
    (StableHlo.held (d.tc : Thread nD τ) callRefs W : sProp 𝕄)
      = whole4 d (W (Proc.devRef .tc main_v3)) (W (Proc.devRef .tc main_v5)) (W (Proc.devRef .tc main_v7)) (W (Proc.devRef .tc main_v8)) := by
  unfold StableHlo.held callRefs whole4 lent
  rw [SparseCore.bigSep_insert' (by decide), SparseCore.bigSep_insert' (by decide), SparseCore.bigSep_insert' (by decide), bigSep_singleton]
  have assoc (A B E : sProp 𝕄) : iprop((A ∗ B) ∗ E) = iprop(A ∗ B ∗ E) := equiv_iff.mp ⟨BI.sep_assoc, BI.sep_assoc'⟩
  exact ((assoc _ _ _).trans (congrArg _ (assoc _ _ _))).symm

abbrev aLoc (d : Dev nD) : Loc nD τ sig := (SparseCore.T d).loc main_arg0
abbrev iLoc (d : Dev nD) : Loc nD τ sig := (SparseCore.T d).loc main_arg1
abbrev zLoc (d : Dev nD) : Loc nD τ sig := (SparseCore.T d).loc main_v10

/-- What is kept to the end. -/
abbrev FIN (d : Dev nD) : sProp (MT nD τ sig (HIx 1) (Elt F) ℕ UU ℕ) :=
  iprop((aLoc d ↦{fullShare} (after m d (Proc.devRef .tc main_arg0) : Buf (Elt F) (aLoc d))) ∗ (iLoc d ↦{fullShare} (after m d (Proc.devRef .tc main_arg1) : Buf (Elt F) (iLoc d)))
    ∗ zLoc d ↦{fullShare} (after m d (Proc.devRef .tc main_v10) : Buf (Elt F) (zLoc d)))

theorem held_end (d : Dev nD) : (StableHlo.held (d.tc : Thread nD τ) endRefs (after m d) : sProp 𝕄) = FIN m d := by
  unfold StableHlo.held endRefs
  rw [SparseCore.bigSep_insert' (by decide), SparseCore.bigSep_insert' (by decide), bigSep_singleton]

/-- The rest is not the call's. -/
theorem held_rest (d : Dev nD) :
    (StableHlo.held (d.tc : Thread nD τ) (Pipeline.ucRefs τ sig \ callRefs) (before m d) : sProp 𝕄)
      = StableHlo.held (d.tc : Thread nD τ) (Pipeline.ucRefs τ sig \ callRefs) (called m d) := by
  refine StableHlo.held_congr _ fun b hb => ?_
  unfold called
  rw [Function.update_of_ne]
  rintro rfl
  exact (Finset.mem_sdiff.mp hb).2 (by decide)

theorem called_eq (d : Dev nD) :
    (StableHlo.held (d.tc : Thread nD τ) callRefs (called m d) : sProp 𝕄)
      = whole4 d (tab m d) (rows m d) (cols m d) (result (tab m d) (rows m d) (cols m d)) := by
  rw [held_call]
  unfold called
  rw [Function.update_of_ne (by decide), Function.update_of_ne (by decide), Function.update_of_ne (by decide), Function.update_self]
  rfl

abbrev PP : (K (F := F)).Pay (nD := nD) (Val := Elt F) (Name := ℕ) (U := UU) := P (tab m) (rows m) (cols m) (old m)

theorem st0_eq (d : Dev nD) : (bigSep Finset.univ fun c : Fin ((K (F := F)).nCore 0) => (PP m).st 0 d c)
    = (whole4 d (tab m d) (rows m d) (cols m d) (old m d) : sProp 𝕄) := by
  rw [whole4_tiles]; rfl
theorem dn0_eq (d : Dev nD) : (bigSep Finset.univ fun c : Fin ((K (F := F)).nCore 0) => (PP m).dn 0 d c)
    = (whole4 d (tab m d) (rows m d) (cols m d) (result (tab m d) (rows m d) (cols m d)) : sProp 𝕄) := by
  rw [whole4_tiles]; rfl

/-- The program on a device: the arguments kept, the result written. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d).loc b)) = (StableHlo.held (d.tc : Thread nD τ) (Pipeline.ucRefs τ sig) fun b => m (d, b) : sProp 𝕄) from
    Pipeline.unscopedBufs_held d fun b => m (d, b), main_eq]
  iintro ⟨#Hctx, Hst, ⟨Hb, Hh, Hts, -⟩, -⟩
  iapply (StableHlo.wp_seq 𝒱 none Set.univ d (Pipeline.ucRefs τ sig) _ opsIn opsIn_sub opsIn_fresh fun b => m (d, b)) $$ [Hb Hh]
  · isplitl [Hb] <;> iassumption
  iintro ⟨Hb, Hh⟩
  ihave Hh := (Entails.of_eq (show StableHlo.held (d.tc : Thread nD τ) (Pipeline.ucRefs τ sig) (StableHlo.after opsIn fun b => m (d, b))
    = (iprop(whole4 d (tab m d) (rows m d) (cols m d) (old m d)
      ∗ StableHlo.held (d.tc : Thread nD τ) (Pipeline.ucRefs τ sig \ callRefs) (called m d)) : sProp 𝕄) by
        rw [StableHlo.held_sub_split _ callRefs_sub, held_call, ← held_rest]; rfl)) $$ Hh
  icases Hh with ⟨Hw, Hr⟩
  rw [wp_bind]
  iapply ((K (F := F)).wp_run (D (F := F)) 𝒱 (EH := EH) (P := PP m) κ d 0)
  isplitr; · iexact Hctx
  isplitl [Hst]; · iexact Hst
  isplitl [Hw]
  · rw [st0_eq]; iexact Hw
  iintro ⟨Hst, Hdn⟩
  ihave Hw := (Entails.of_eq (dn0_eq m d)) $$ Hdn
  ihave Hh := (Entails.of_eq (show (iprop(whole4 d (tab m d) (rows m d) (cols m d) (result (tab m d) (rows m d) (cols m d))
      ∗ StableHlo.held (d.tc : Thread nD τ) (Pipeline.ucRefs τ sig \ callRefs) (called m d)) : sProp 𝕄)
      = StableHlo.held (d.tc : Thread nD τ) (Pipeline.ucRefs τ sig) (called m d) by
        rw [← called_eq, ← StableHlo.held_sub_split _ callRefs_sub])) $$ [Hw Hr]
  · isplitl [Hw] <;> iassumption
  iapply (StableHlo.wp_seq 𝒱 none Set.univ d (Pipeline.ucRefs τ sig) _ opsOut opsOut_sub opsOut_fresh (called m d)) $$ [Hb Hh]
  · isplitl [Hb] <;> iassumption
  iintro ⟨Hb, Hh⟩
  ihave Hh := (Entails.of_eq (show StableHlo.held (d.tc : Thread nD τ) (Pipeline.ucRefs τ sig) (StableHlo.after opsOut (called m d))
    = (iprop(FIN m d ∗ StableHlo.held (d.tc : Thread nD τ) (Pipeline.ucRefs τ sig \ endRefs) (after m d)) : sProp 𝕄) by
        rw [StableHlo.held_sub_split _ endRefs_sub, ← held_end]; rfl)) $$ Hh
  icases Hh with ⟨Hf, -⟩
  rw [wp_pure]
  imodintro
  isplitl [Hst]; · iexact Hst
  isplitl [Hf]; · iexact Hf
  isplitl [Hb] <;> iassumption

/-- The memory at the end. -/
def fq (d : Dev nD) (s' : Phys nD τ sig (Elt F)) : Prop :=
  s'.mem.mem (aLoc d) = after m d (Proc.devRef .tc main_arg0) ∧ s'.mem.mem (iLoc d) = after m d (Proc.devRef .tc main_arg1)
    ∧ s'.mem.mem (zLoc d) = after m d (Proc.devRef .tc main_v10)

theorem hfin (d : Dev nD) (s' : Phys nD τ sig (Elt F)) : iprop(FIN m d ∗ SI s') ⊢ (⌜fq m d s'⌝ : sProp 𝕄) := by
  iintro ⟨⟨Ha, Hi, Hz⟩, HSI⟩
  ihave H := (persistent_entails_right (SI_pointsTo_agree (st := s') (ℓ := aLoc d) (I := Finset.univ) (q := fullShare) (f := after m d (Proc.devRef .tc main_arg0)))) $$ [HSI Ha]
  · isplitl [HSI] <;> iassumption
  icases H with ⟨%h1, HSI, -⟩
  ihave H := (persistent_entails_right (SI_pointsTo_agree (st := s') (ℓ := iLoc d) (I := Finset.univ) (q := fullShare) (f := after m d (Proc.devRef .tc main_arg1)))) $$ [HSI Hi]
  · isplitl [HSI] <;> iassumption
  icases H with ⟨%h2, HSI, -⟩
  ihave H := (SI_pointsTo_agree (st := s') (ℓ := zLoc d) (I := Finset.univ) (q := fullShare) (f := after m d (Proc.devRef .tc main_v10))) $$ [HSI Hz]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The arguments are as they were. -/
theorem after_arg0 (d : Dev nD) : after m d (Proc.devRef .tc main_arg0) = m (aLoc d) := by
  unfold after opsOut called before opsIn
  after_results
  rw [Function.update_of_ne (by decide)]
  rfl
theorem after_arg1 (d : Dev nD) : after m d (Proc.devRef .tc main_arg1) = m (iLoc d) := by
  unfold after opsOut called before opsIn
  after_results
  rw [Function.update_of_ne (by decide)]
  rfl

/-- The arguments kept, the result as computed, every semaphore at zero. -/
def QC : PUnit × MemSt nD τ sig (Elt F) → Prop := fun r =>
  (∀ c : Dev nD, r.2.mem (aLoc c) = m (aLoc c) ∧ r.2.mem (iLoc c) = m (iLoc c) ∧ r.2.mem (zLoc c) = after m c (Proc.devRef .tc main_v10)) ∧ r.2.sem = fun _ => 0

/-- Every run of the program ends so, over any float values. -/
theorem run_main [∀ e, Nonempty (Elt F e)] (hr : ∀ d, InRange (rows m d) (cols m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ facts hr)
    (fun q _ => match q with | 0 => SparseCore.Cfg.VecSplit.of_plain (vecSplit _ _ _ _))
    m ρ main (fun _ => iprop(emp)) (FIN m) (u₀ (F := F)) (sep_elim_left.trans (hu₀ _ _ _ _)) (hmain m ρ) (fq m) (hfin m) (QC m)
    (fun _ h hz => ⟨fun c => ⟨(h c).1.trans (after_arg0 m c), (h c).2.1.trans (after_arg1 m c), (h c).2.2⟩, hz⟩)

end Cert.Proof.Gather
-- ==== Proof.Tile.Words.lean ====
/- The flat place's word as a number, and that the places of indices in range are the table's. -/
module

public import proofs.«01_k».proof.Proof.Tile.Base

@[expose] public section

noncomputable section

namespace Cert.Proof.Gather

open Idealize.ShloMosaic

/-- Joining a number below `2 ^ i` to a multiple of `2 ^ i` by their bits adds them. -/
theorem or_low (a b i : ℕ) (h : b < 2 ^ i) : (a * 2 ^ i) ||| b = a * 2 ^ i + b := by
  rw [← Nat.shiftLeft_eq, Nat.shiftLeft_add_eq_or_of_lt h]

/-- The place's number: the column's part, the row's, and the lane. -/
theorem place_toNat (r c : BitVec 32) (hr : r.toNat < 200) (hc : c.toNat < 200) :
    (place r c).toNat = c.toNat * 1048576 + r.toNat / 128 * 1024 + r.toNat % 128 := by
  have e1 : (IntOp.shli .vector c 20#32).toNat = c.toNat * 2 ^ 20 := by
    rw [IntOp.shli, if_pos (by decide)]
    rw [BitVec.shiftLeft_eq', BitVec.toNat_shiftLeft, show (20#32).toNat = 20 from rfl, Nat.shiftLeft_eq, Nat.mod_eq_of_lt]
    omega
  have e2 : (IntOp.shrsi .vector r 7#32).toNat = r.toNat / 128 := by
    rw [IntOp.shrsi, if_pos (by decide), BitVec.sshiftRight', BitVec.sshiftRight_eq_of_msb_false (by rw [BitVec.msb_eq_false_iff_two_mul_lt]; omega),
      BitVec.toNat_ushiftRight, show (7#32).toNat = 7 from rfl, Nat.shiftRight_eq_div_pow]
  have e3 : (IntOp.shli .vector (IntOp.shrsi .vector r 7#32) 10#32).toNat = r.toNat / 128 * 2 ^ 10 := by
    rw [IntOp.shli, if_pos (by decide), BitVec.shiftLeft_eq', BitVec.toNat_shiftLeft, e2, show (10#32).toNat = 10 from rfl, Nat.shiftLeft_eq, Nat.mod_eq_of_lt]
    omega
  have e4 : (IntOp.andi r 127#32).toNat = r.toNat % 128 := by
    rw [IntOp.andi, BitVec.toNat_and, show (127#32).toNat = 2 ^ 7 - 1 from rfl, Nat.and_two_pow_sub_one_eq_mod]
  rw [place, IntOp.ori, IntOp.ori, BitVec.toNat_or, BitVec.toNat_or, e1, e3, e4, or_low _ _ 20 (by omega),
    show c.toNat * 2 ^ 20 + r.toNat / 128 * 2 ^ 10 = (c.toNat * 1024 + r.toNat / 128) * 2 ^ 10 by omega, or_low _ _ 10 (by omega)]
  omega

/-- The flat place's number. -/
theorem flat_toNat (r c : BitVec 32) (g f : ℕ) (hr : r.toNat < 200) (hc : c.toNat < 200) (hg : g < 8) (hf : f < 8) :
    (flat r c g f).toNat = c.toNat * 1048576 + g * 131072 + r.toNat / 128 * 1024 + f * 128 + r.toNat % 128 := by
  rw [flat, IntOp.addi, BitVec.toNat_add, place_toNat r c hr hc, BitVec.toNat_ofNat]
  omega

/-- Indices below 200 name places of the table. -/
theorem inRange_of_lt (R C : Cert.KernelIdeal.S16384.Idx → BitVec 32) (hR : ∀ x, (R x).toNat < 200) (hC : ∀ x, (C x).toNat < 200) : InRange R C := by
  intro n g f hg hf
  rw [flat_toNat _ _ g f (hR _) (hC _) hg hf]
  have := hR (listAt n)
  have := hC (listAt n)
  omega

end Cert.Proof.Gather
-- ==== Proof.Tile.Values.lean ====
/- What the host's lines hand to the call, and what the result holds, as the arguments' elements. -/
module

public import proofs.«01_k».proof.Proof.Tile.Main
public import proofs.«01_k».proof.Proof.Tile.Words
public import Idealize.ShloMosaic.Lib.PointwiseCore
public import Idealize.ShloMosaic.Lib.ReduceAll
public import proofs.«01_k».proof.Proof.Gen.Pre_in_range

@[expose] public section

noncomputable section

namespace Cert.Proof.Gather

open Cert.KernelIdeal Cert.KernelIdeal.Gen
open Idealize.ShloMosaic

variable {F : FTy → Type} [FloatOps F]
variable (m : (ℓ : Loc nD τ sig) → Buf (Elt F) ℓ)

/-- The arguments as vectors. -/
abbrev argX (d : Dev nD) : S16384x200x64.Idx → Elt F .f32 := m (aLoc d)
abbrev argI (d : Dev nD) : S2x16384.Idx → BitVec 32 := m (iLoc d)

/-- The list of rows is the index array's first row. -/
theorem rows_eq (d : Dev nD) (b : Fin 16384) : rows m d (ix1 b) = argI m d (ix2 0 b) := by
  have h : rows m d = shapeCast S16384 (extractStridedSlice S1x16384 ![0, 0] (argI m d) slices_S2x16384_S1x16384_0_0) shapeCasts_S1x16384_S16384 := by
    unfold rows before opsIn
    after_results
    rfl
  rw [h]
  pointwise

/-- The list of columns is its second row. -/
theorem cols_eq (d : Dev nD) (b : Fin 16384) : cols m d (ix1 b) = argI m d (ix2 1 b) := by
  have h : cols m d = shapeCast S16384 (extractStridedSlice S1x16384 ![1, 0] (argI m d) slices_S2x16384_S1x16384_1_0) shapeCasts_S1x16384_S16384 := by
    unfold cols before opsIn
    after_results
    rfl
  rw [h]
  pointwise

/-- The digits of a place: a number made of a column, a feature's two parts and a row's two parts gives them back. -/
theorem digits (n c g p f l : ℕ) (h : n = c * 1048576 + g * 131072 + p * 1024 + f * 128 + l) (hg : g < 8) (hp : p < 128) (hf : f < 8) (hl : l < 128) :
    n / 1024 % 128 = p ∧ n % 128 = l ∧ n / 1048576 = c ∧ n / 131072 % 8 = g ∧ n / 128 % 8 = f := by
  refine ⟨?_, ?_, ?_, ?_, ?_⟩ <;> omega

/-- The table is the first argument with its axes split and put in another order. -/
theorem tab_eq (d : Dev nD) (n : Fin 209715200) (r : Fin 16384) (c : Fin 200) (k : Fin 64)
    (h : n.val = c.val * 1048576 + k.val / 8 * 131072 + r.val / 128 * 1024 + k.val % 8 * 128 + r.val % 128) :
    tab m d (ix1 n) = argX m d (ix3 r c k) := by
  have e : tab m d = shapeCast S209715200 (transpose S200x8x128x8x128 [0, 1, 3, 2, 4]
      (shapeCast S200x8x8x128x128 (transpose S200x64x16384 [1, 2, 0] (argX m d) transposes_S16384x200x64_S200x64x16384_1_2_0)
        shapeCasts_S200x64x16384_S200x8x8x128x128) transposes_S200x8x8x128x128_S200x8x128x8x128_0_1_3_2_4) shapeCasts_S200x8x128x8x128_S209715200 := by
    unfold tab before opsIn
    after_results
    rfl
  rw [e]
  pointwise
  obtain ⟨e1, e2, e3, e4, e5⟩ := digits _ _ _ _ _ _ h (by omega) (by omega) (by omega) (by omega)
  congr 1
  refine congr (congr (congrArg ix3 ?_) ?_) ?_ <;> refine Fin.ext ?_ <;> dsimp only
  · rw [e1, e2]; exact Nat.div_add_mod' _ 128
  · exact e3
  · rw [e4, e5]; exact Nat.div_add_mod' _ 8

/-- The result before it is put in order. -/
theorem after_eq (d : Dev nD) (b : Fin 16384) (k : Fin 64) :
    (after m d (Proc.devRef .tc main_v10) : S16384x64.Idx → Elt F .f32) (ix2 b k) =
      result (tab m d) (rows m d) (cols m d) (ix4 ⟨k.val / 8, by omega⟩ ⟨b.val / 128, by omega⟩ ⟨k.val % 8, by omega⟩ ⟨b.val % 128, by omega⟩) := by
  have h : (after m d (Proc.devRef .tc main_v10) : S16384x64.Idx → Elt F .f32)
      = shapeCast S16384x64 (transpose S128x128x8x8 [1, 3, 0, 2] (result (tab m d) (rows m d) (cols m d)) transposes_S8x128x8x128_S128x128x8x8_1_3_0_2)
          shapeCasts_S128x128x8x8_S16384x64 := by
    unfold after opsOut called
    after_results
    rw [Function.update_self]
    rfl
  rw [h]
  pointwise

/-- Every element of the index array is at least 0 and below 200. -/
theorem words_lt (X : S16384x200x64.Idx → Elt F .f32) (I : S2x16384.Idx → BitVec 32) (h : Cert.Pre_in_range.fn (F := F) X I = fun _ => 1#1)
    (i : S2x16384.Idx) : (I i).toNat < 200 := by
  have key : ∀ v : BitVec 32, IntOp.andi (IntOp.cmpi .sge v 0#32) (IntOp.cmpi .slt v 200#32) = 1#1 → v.toNat < 200 := by
    intro v hv
    have h1 := IntOp.cmpi_sge.1 (IntOp.andi_eq_one.1 hv).1
    have h2 := IntOp.cmpi_slt.1 (IntOp.andi_eq_one.1 hv).2
    rw [show (0#32).toInt = 0 from rfl, BitVec.toInt_eq_toNat_cond] at h1
    rw [show (200#32).toInt = 200 from rfl, BitVec.toInt_eq_toNat_cond] at h2
    have := v.isLt
    split at h1 <;> omega
  dsimp only [Cert.Pre_in_range.fn] at h
  refine key _ ?_
  have := Host.reduce_andi_all _ _ _ _ _ (congrFun h finZeroElim) i
  pointwise at this
  exact this

/-- So every place read is the table's. -/
theorem inRange (h : ∀ c, Cert.Pre_in_range.fn (F := F) (m (aLoc c)) (m (iLoc c)) = fun _ => 1#1) (d : Dev nD) : InRange (rows m d) (cols m d) := by
  refine inRange_of_lt _ _ (fun x => ?_) (fun x => ?_)
  · idx_vars x
    rw [rows_eq]
    exact words_lt _ _ (h d) _
  · idx_vars x
    rw [cols_eq]
    exact words_lt _ _ (h d) _

/-- The result at `(b, k)` is the first argument at the row and the column that the index array names for `b`. -/
theorem out_eq (d : Dev nD) (h : Cert.Pre_in_range.fn (F := F) (m (aLoc d)) (m (iLoc d)) = fun _ => 1#1) (b : Fin 16384) (k : Fin 64)
    (r : Fin 16384) (c : Fin 200) (hr : r.val = (argI m d (ix2 0 b)).toNat) (hc : c.val = (argI m d (ix2 1 b)).toNat) :
    (after m d (Proc.devRef .tc main_v10) : S16384x64.Idx → Elt F .f32) (ix2 b k) = argX m d (ix3 r c k) := by
  have h0 := words_lt _ _ h (ix2 0 b)
  have h1 := words_lt _ _ h (ix2 1 b)
  have el : listAt (128 * (b.val / 128) + b.val % 128) = ix1 b := by
    funext a
    refine Fin.ext ?_
    show (128 * (b.val / 128) + b.val % 128) % 16384 = _
    match a with
    | ⟨0, _⟩ => show _ = b.val; omega
  rw [after_eq]
  show tab m d (tableAt (flat (rows m d (listAt (128 * (b.val / 128) + b.val % 128))) (cols m d (listAt (128 * (b.val / 128) + b.val % 128)))
    (k.val / 8) (k.val % 8)).toNat) = _
  rw [el, rows_eq, cols_eq, flat_toNat _ _ _ _ h0 h1 (by omega) (by omega), ← hr, ← hc]
  exact tab_eq m d _ r c k (Nat.mod_eq_of_lt (by omega))

end Cert.Proof.Gather
-- ==== Proof.Tile.Reference.lean ====
/- What the reference computes, as the arguments' elements. -/
module

public import proofs.«01_k».proof.Proof.Gen.ReferenceIdeal.Run
public import Idealize.ShloMosaic.Lib.PointwiseCore

@[expose] public section

noncomputable section

namespace Cert.Proof.Reference

open Cert.ReferenceIdeal Cert.ReferenceIdeal.Gen
open Idealize.ShloMosaic

variable {F : FTy → Type} [FloatOps F]

/-- A word below the signed half is not taken for negative, so it is read as it stands. -/
theorem wrap (v n : BitVec 32) (h : v.toNat < 200) : Scalar.select (IntOp.cmpi .slt v 0#32) (IntOp.addi v n) v = v := by
  have h0 : IntOp.cmpi .slt v 0#32 ≠ 1#1 := by
    rw [ne_eq, IntOp.cmpi_slt, show (0#32).toInt = 0 from rfl, BitVec.toInt_eq_toNat_cond]
    split <;> omega
  exact if_neg h0

/-- The gather's dimension numbers, under a short name. -/
abbrev dims : GatherDims S16384x200x64 S16384x2 S16384x64 := gather_S16384x200x64_S16384x2_S16384x64_1_01_n_n_01_1_1164

theorem mem_start0 : (0 : Fin 3) ∈ dims.startIndexMap := by decide
theorem mem_start1 : (1 : Fin 3) ∈ dims.startIndexMap := by decide
theorem mem_kept2 : (2 : Fin 3) ∈ dims.sKept := by decide

/-- The reference's gather at `(b, k)`: the operand at the row and the column that the two words of `b` name. -/
theorem gather_eq {α : Type} (X : S16384x200x64.Idx → α) (I : S16384x2.Idx → BitVec 32) (b : Fin 16384) (k : Fin 64) (r : Fin 16384) (c : Fin 200)
    (hr : (I (ix2 b 0)).toInt.toNat = r.val) (hc : (I (ix2 b 1)).toInt.toNat = c.val) : Host.gather dims X I (ix2 b k) = X (ix3 r c k) := by
  unfold Host.gather
  congr 1
  funext a
  refine Fin.ext ?_
  show dims.start (ix2 b k) I a + dims.batchCoord (ix2 b k) a + dims.offCoord (ix2 b k) a = _
  rw [GatherDims.batchCoord_eq_zero _ _ _ List.not_mem_nil, Nat.add_zero]
  have cases3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases cases3 with rfl | rfl | rfl
  · rw [GatherDims.offCoord_eq_zero _ _ _ (by decide)]
    unfold GatherDims.start
    rw [dif_pos mem_start0]
    have hs : dims.siIdx (ix2 b k) ⟨List.idxOf (0 : Fin 3) dims.startIndexMap, List.idxOf_lt_length_iff.2 mem_start0⟩ = ix2 b 0 := by
      funext e
      refine Fin.ext ?_
      match e with
      | ⟨0, _⟩ => rfl
      | ⟨1, _⟩ => rfl
    rw [hs, hr]
    show min r.val (16384 - 1) + 0 = r.val
    omega
  · rw [GatherDims.offCoord_eq_zero _ _ _ (by decide)]
    unfold GatherDims.start
    rw [dif_pos mem_start1]
    have hs : dims.siIdx (ix2 b k) ⟨List.idxOf (1 : Fin 3) dims.startIndexMap, List.idxOf_lt_length_iff.2 mem_start1⟩ = ix2 b 1 := by
      funext e
      refine Fin.ext ?_
      match e with
      | ⟨0, _⟩ => rfl
      | ⟨1, _⟩ => rfl
    rw [hs, hc]
    show min c.val (200 - 1) + 0 = c.val
    omega
  · unfold GatherDims.start
    rw [dif_neg (by decide)]
    unfold GatherDims.offCoord
    rw [dif_pos mem_kept2]
    exact Nat.zero_add _

/-- The gather's start indices as the reference builds them from the index array. -/
def starts (I : S2x16384.Idx → BitVec 32) : S16384x2.Idx → BitVec 32 :=
  concatenate S16384x2 1
    [⟨S16384x1, broadcastInDim S16384x1 ![0] bcast_S16384_S16384x1_0
        (select (cmpi .slt (shapeCast S16384 (extractStridedSlice S1x16384 ![0, 0] I slices_S2x16384_S1x16384_0_0) shapeCasts_S1x16384_S16384)
            (broadcastInDim S16384 ![] bcast_S_S16384 (constantI S_ 32 0#32)))
          (addi (shapeCast S16384 (extractStridedSlice S1x16384 ![0, 0] I slices_S2x16384_S1x16384_0_0) shapeCasts_S1x16384_S16384)
            (broadcastInDim S16384 ![] bcast_S_S16384 (constantI S_ 32 16384#32)))
          (shapeCast S16384 (extractStridedSlice S1x16384 ![0, 0] I slices_S2x16384_S1x16384_0_0) shapeCasts_S1x16384_S16384))⟩,
     ⟨S16384x1, broadcastInDim S16384x1 ![0] bcast_S16384_S16384x1_0
        (select (cmpi .slt (shapeCast S16384 (extractStridedSlice S1x16384 ![1, 0] I slices_S2x16384_S1x16384_1_0) shapeCasts_S1x16384_S16384)
            (broadcastInDim S16384 ![] bcast_S_S16384 (constantI S_ 32 0#32)))
          (addi (shapeCast S16384 (extractStridedSlice S1x16384 ![1, 0] I slices_S2x16384_S1x16384_1_0) shapeCasts_S1x16384_S16384)
            (broadcastInDim S16384 ![] bcast_S_S16384 (constantI S_ 32 200#32)))
          (shapeCast S16384 (extractStridedSlice S1x16384 ![1, 0] I slices_S2x16384_S1x16384_1_0) shapeCasts_S1x16384_S16384))⟩]
    concatenates_S16384x1_S16384x1_S16384x2_d1

/-- For indices in range they are the index array's two words. -/
theorem starts0 (I : S2x16384.Idx → BitVec 32) (b : Fin 16384) (h : (I (ix2 0 b)).toNat < 200) : starts I (ix2 b 0) = I (ix2 0 b) := by
  unfold starts
  pointwise
  exact wrap _ _ h
theorem starts1 (I : S2x16384.Idx → BitVec 32) (b : Fin 16384) (h : (I (ix2 1 b)).toNat < 200) : starts I (ix2 b 1) = I (ix2 1 b) := by
  unfold starts
  pointwise
  exact wrap _ _ h

/-- A word below the signed half, read signed, is its number. -/
theorem toInt_small (v : BitVec 32) (h : v.toNat < 200) : v.toInt.toNat = v.toNat := by
  rw [BitVec.toInt_eq_toNat_cond]
  split <;> omega

/-- The reference's result at `(b, k)`, for indices in range. -/
theorem ref_eq {α : Type} (X : S16384x200x64.Idx → α) (I : S2x16384.Idx → BitVec 32) (b : Fin 16384) (k : Fin 64) (r : Fin 16384) (c : Fin 200)
    (h0 : (I (ix2 0 b)).toNat < 200) (h1 : (I (ix2 1 b)).toNat < 200) (hr : r.val = (I (ix2 0 b)).toNat) (hc : c.val = (I (ix2 1 b)).toNat) :
    Host.gather dims X (starts I) (ix2 b k) = X (ix3 r c k) :=
  gather_eq X (starts I) b k r c (by rw [starts0 I b h0, toInt_small _ h0, hr]) (by rw [starts1 I b h1, toInt_small _ h1, hc])

/-- An array whose element at `(b, k)` is `X` at the row and the column named for `b` is the reference's result. -/
theorem ref_unique {α : Type} (X : S16384x200x64.Idx → α) (I : S2x16384.Idx → BitVec 32) (out : S16384x64.Idx → α) (h : ∀ i, (I i).toNat < 200)
    (ho : ∀ (b : Fin 16384) (k : Fin 64) (r : Fin 16384) (c : Fin 200), r.val = (I (ix2 0 b)).toNat → c.val = (I (ix2 1 b)).toNat →
      out (ix2 b k) = X (ix3 r c k)) : Host.gather dims X (starts I) = out := by
  funext z
  obtain ⟨b, k, rfl⟩ : ∃ (b : Fin 16384) (k : Fin 64), z = ix2 b k := ⟨_, _, ValueIdx.eq_ix2 z⟩
  rw [ref_eq X I b k ⟨_, (h (ix2 0 b)).trans (by decide)⟩ ⟨_, h (ix2 1 b)⟩ (h _) (h _) rfl rfl]
  exact (ho b k _ _ rfl rfl).symm

end Cert.Proof.Reference
-- ==== Proof.Tile.Claims.lean ====
/- The claims: the frames from the run, and the equation of the two results. -/
module

public import proofs.«01_k».proof.Defs
public import proofs.«01_k».proof.Proof.Tile.Values
public import proofs.«01_k».proof.Proof.Tile.Reference
public import proofs.«01_k».proof.Proof.Gen.Kernel

@[expose] public section

noncomputable section

namespace Cert.Proof.Gather

open Idealize.ShloMosaic Idealize.SL.Sem

/-- The kernel's program over bit patterns: it has the ideal program's text, so its run is the same one. -/
theorem frame_kernel : Cert.quiescent_Kernel := fun m ρ hpre =>
  (θ_run Cert.KernelIdeal.defs _ _).mono (fun _ h => ⟨fun c => ⟨(h.1 c).1, (h.1 c).2.1⟩, h.2⟩) (run_main (F := Bits) m ρ (inRange m hpre))

/-- The kernel's program over the extended reals. -/
theorem frame_ideal : Cert.quiescent_KernelIdeal := fun m ρ hpre =>
  (θ_run Cert.KernelIdeal.defs _ _).mono (fun _ h => ⟨fun c => ⟨(h.1 c).1, (h.1 c).2.1⟩, h.2⟩) (run_main (F := Ideal) m ρ (inRange m hpre))

/-- The reference keeps its arguments; it has no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- The same where the indices are in range. -/
theorem frame_reference_in_range : Cert.quiescent_ReferenceIdeal_pre_in_range := fun m ρ _ => frame_reference m ρ trivial

/-- The two results are equal: each is the first argument's element at the named row and column. -/
theorem results_eq (m : (ℓ : Loc Cert.KernelIdeal.nD Cert.KernelIdeal.τ Cert.KernelIdeal.sig) → Buf (Elt Ideal) ℓ) (d : Dev Cert.KernelIdeal.nD)
    (h : Cert.Pre_in_range.fn (F := Ideal) (m (aLoc d)) (m (iLoc d)) = fun _ => 1#1) :
    Host.gather Cert.Proof.Reference.dims (argX m d) (Cert.Proof.Reference.starts (argI m d)) = after m d (Proc.devRef .tc Cert.KernelIdeal.main_v10) :=
  Cert.Proof.Reference.ref_unique (argX m d) (argI m d) _ (words_lt _ _ h) (out_eq m d h)

/-- From memories that agree on the arguments, both programs run and end with one result. -/
theorem algebraic : Cert.algebraic_KernelIdeal_ReferenceIdeal := fun m ρ m' ρ' hpre hagree =>
  ⟨fun c => after m c (Proc.devRef .tc Cert.KernelIdeal.main_v10),
    (θ_run Cert.KernelIdeal.defs _ _).mono (fun _ h c => ⟨(h.1 c).2.2, (h.1 c).1, (h.1 c).2.1⟩) (run_main (F := Ideal) m ρ (inRange m hpre)),
    (θ_run Cert.ReferenceIdeal.defs _ _).mono (fun _ h c => ⟨(h c).1.trans (by
        rw [(hagree c).1, (hagree c).2]
        exact results_eq m c (hpre c)), (h c).2.1, (h c).2.2⟩)
      (Cert.ReferenceIdeal.Value.run (F := Ideal) m' ρ')⟩

end Cert.Proof.Gather
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Tile.Claims
public import Idealize.ShloMosaic.Adequacy
public import Idealize.ShloMosaic.Init

@[expose] public section

noncomputable section

namespace Cert.Proof

open Idealize.ShloMosaic Idealize.SL.Sem Cert.Kernel

/-- Every claim of the certificate, with the witnesses of the facts that the programs state. -/
theorem claim : Cert.Claim :=
  ⟨Cert.Kernel.Gen.facts, Cert.KernelIdeal.Gen.facts, Cert.ReferenceIdeal.Gen.facts, Cert.Pre_in_range.Gen.facts,
    Gather.frame_kernel, Gather.frame_ideal, Gather.frame_reference, Gather.frame_reference_in_range, trivial, Gather.algebraic⟩

end Cert.Proof

end
